-- ==== Defs.lean ====
def Pre_Kernel (m : (ℓ : Loc Cert.Kernel.nD Cert.Kernel.τ Cert.Kernel.sig) → Buf (Elt Bits) ℓ) : Prop :=
  True

def Pre_Compared (m : (ℓ : Loc Cert.Compared.nD Cert.Compared.τ Cert.Compared.sig) → Buf (Elt Bits) ℓ) : Prop :=
  True

def Pre_ComparedIdeal (m : (ℓ : Loc Cert.ComparedIdeal.nD Cert.ComparedIdeal.τ Cert.ComparedIdeal.sig) → Buf (Elt Ideal) ℓ) : Prop :=
  True

def Pre_ComparedIdeal_in_range [hPre_in_range : Cert.Pre_in_range.Facts] (m : (ℓ : Loc Cert.ComparedIdeal.nD Cert.ComparedIdeal.τ Cert.ComparedIdeal.sig) → Buf (Elt Ideal) ℓ) : Prop :=
  ∀ c : Dev Cert.ComparedIdeal.nD,
    (Cert.Pre_in_range.fn (F := Ideal) (m ((c.tc : Thread Cert.ComparedIdeal.nD Cert.ComparedIdeal.τ).loc Cert.ComparedIdeal.main_arg0)) (m ((c.tc : Thread Cert.ComparedIdeal.nD Cert.ComparedIdeal.τ).loc Cert.ComparedIdeal.main_arg1)) (m ((c.tc : Thread Cert.ComparedIdeal.nD Cert.ComparedIdeal.τ).loc Cert.ComparedIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Compared [hCompared : Cert.Compared.Facts] : Prop :=
  ∀ (m : (ℓ : Loc Cert.Compared.nD Cert.Compared.τ Cert.Compared.sig) → Buf (Elt Bits) ℓ) (g : Dev Cert.Compared.nD → PrngReg), Pre_Compared m →
    θ_run (Cert.Compared.defs (F := Bits)) (onTc (τ := Cert.Compared.τ) (Cert.Compared.main (F := Bits))) ⟨m, fun _ => 0, g⟩ (fun r => (∀ c : Dev Cert.Compared.nD,
      r.2.mem ((c.tc : Thread Cert.Compared.nD Cert.Compared.τ).loc Cert.Compared.main_arg0) = m ((c.tc : Thread Cert.Compared.nD Cert.Compared.τ).loc Cert.Compared.main_arg0)
      ∧ r.2.mem ((c.tc : Thread Cert.Compared.nD Cert.Compared.τ).loc Cert.Compared.main_arg1) = m ((c.tc : Thread Cert.Compared.nD Cert.Compared.τ).loc Cert.Compared.main_arg1)
      ∧ r.2.mem ((c.tc : Thread Cert.Compared.nD Cert.Compared.τ).loc Cert.Compared.main_arg2) = m ((c.tc : Thread Cert.Compared.nD Cert.Compared.τ).loc Cert.Compared.main_arg2))
      ∧ r.2.sem = fun _ => 0)

def quiescent_ComparedIdeal [hComparedIdeal : Cert.ComparedIdeal.Facts] : Prop :=
  ∀ (m : (ℓ : Loc Cert.ComparedIdeal.nD Cert.ComparedIdeal.τ Cert.ComparedIdeal.sig) → Buf (Elt Ideal) ℓ) (g : Dev Cert.ComparedIdeal.nD → PrngReg), Pre_ComparedIdeal m →
    θ_run (Cert.ComparedIdeal.defs (F := Ideal)) (onTc (τ := Cert.ComparedIdeal.τ) (Cert.ComparedIdeal.main (F := Ideal))) ⟨m, fun _ => 0, g⟩ (fun r => (∀ c : Dev Cert.ComparedIdeal.nD,
      r.2.mem ((c.tc : Thread Cert.ComparedIdeal.nD Cert.ComparedIdeal.τ).loc Cert.ComparedIdeal.main_arg0) = m ((c.tc : Thread Cert.ComparedIdeal.nD Cert.ComparedIdeal.τ).loc Cert.ComparedIdeal.main_arg0)
      ∧ r.2.mem ((c.tc : Thread Cert.ComparedIdeal.nD Cert.ComparedIdeal.τ).loc Cert.ComparedIdeal.main_arg1) = m ((c.tc : Thread Cert.ComparedIdeal.nD Cert.ComparedIdeal.τ).loc Cert.ComparedIdeal.main_arg1)
      ∧ r.2.mem ((c.tc : Thread Cert.ComparedIdeal.nD Cert.ComparedIdeal.τ).loc Cert.ComparedIdeal.main_arg2) = m ((c.tc : Thread Cert.ComparedIdeal.nD Cert.ComparedIdeal.τ).loc Cert.ComparedIdeal.main_arg2))
      ∧ r.2.sem = fun _ => 0)

def quiescent_ComparedIdeal_pre_in_range [hComparedIdeal : Cert.ComparedIdeal.Facts] [hPre_in_range : Cert.Pre_in_range.Facts] : Prop :=
  ∀ (m : (ℓ : Loc Cert.ComparedIdeal.nD Cert.ComparedIdeal.τ Cert.ComparedIdeal.sig) → Buf (Elt Ideal) ℓ) (g : Dev Cert.ComparedIdeal.nD → PrngReg), Pre_ComparedIdeal_in_range m →
    θ_run (Cert.ComparedIdeal.defs (F := Ideal)) (onTc (τ := Cert.ComparedIdeal.τ) (Cert.ComparedIdeal.main (F := Ideal))) ⟨m, fun _ => 0, g⟩ (fun r => (∀ c : Dev Cert.ComparedIdeal.nD,
      r.2.mem ((c.tc : Thread Cert.ComparedIdeal.nD Cert.ComparedIdeal.τ).loc Cert.ComparedIdeal.main_arg0) = m ((c.tc : Thread Cert.ComparedIdeal.nD Cert.ComparedIdeal.τ).loc Cert.ComparedIdeal.main_arg0)
      ∧ r.2.mem ((c.tc : Thread Cert.ComparedIdeal.nD Cert.ComparedIdeal.τ).loc Cert.ComparedIdeal.main_arg1) = m ((c.tc : Thread Cert.ComparedIdeal.nD Cert.ComparedIdeal.τ).loc Cert.ComparedIdeal.main_arg1)
      ∧ r.2.mem ((c.tc : Thread Cert.ComparedIdeal.nD Cert.ComparedIdeal.τ).loc Cert.ComparedIdeal.main_arg2) = m ((c.tc : Thread Cert.ComparedIdeal.nD Cert.ComparedIdeal.τ).loc Cert.ComparedIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Compared_ComparedIdeal : Prop :=
  True

def algebraic_ComparedIdeal_ReferenceIdeal_pre_in_range [hComparedIdeal : Cert.ComparedIdeal.Facts] [hReferenceIdeal : Cert.ReferenceIdeal.Facts] [hPre_in_range : Cert.Pre_in_range.Facts] : Prop :=
  ∀ (m : (ℓ : Loc Cert.ComparedIdeal.nD Cert.ComparedIdeal.τ Cert.ComparedIdeal.sig) → Buf (Elt Ideal) ℓ) (g : Dev Cert.ComparedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ComparedIdeal_in_range m →
    (∀ c : Dev Cert.ComparedIdeal.nD,
      m' ((c.tc : Thread Cert.ReferenceIdeal.nD Cert.ReferenceIdeal.τ).loc Cert.ReferenceIdeal.main_arg0) = m ((c.tc : Thread Cert.ComparedIdeal.nD Cert.ComparedIdeal.τ).loc Cert.ComparedIdeal.main_arg0)
      ∧ m' ((c.tc : Thread Cert.ReferenceIdeal.nD Cert.ReferenceIdeal.τ).loc Cert.ReferenceIdeal.main_arg1) = m ((c.tc : Thread Cert.ComparedIdeal.nD Cert.ComparedIdeal.τ).loc Cert.ComparedIdeal.main_arg1)
      ∧ m' ((c.tc : Thread Cert.ReferenceIdeal.nD Cert.ReferenceIdeal.τ).loc Cert.ReferenceIdeal.main_arg2) = m ((c.tc : Thread Cert.ComparedIdeal.nD Cert.ComparedIdeal.τ).loc Cert.ComparedIdeal.main_arg2)) →
    ∃ (v0 : (c : Dev Cert.ComparedIdeal.nD) → Buf (Elt Ideal) ((c.tc : Thread Cert.ComparedIdeal.nD Cert.ComparedIdeal.τ).loc Cert.ComparedIdeal.main_v3)) (v1 : (c : Dev Cert.ComparedIdeal.nD) → Buf (Elt Ideal) ((c.tc : Thread Cert.ComparedIdeal.nD Cert.ComparedIdeal.τ).loc Cert.ComparedIdeal.main_v4)) (v2 : (c : Dev Cert.ComparedIdeal.nD) → Buf (Elt Ideal) ((c.tc : Thread Cert.ComparedIdeal.nD Cert.ComparedIdeal.τ).loc Cert.ComparedIdeal.main_v5)),
      θ_run (Cert.ComparedIdeal.defs (F := Ideal)) (onTc (τ := Cert.ComparedIdeal.τ) (Cert.ComparedIdeal.main (F := Ideal))) ⟨m, fun _ => 0, g⟩ (fun r => ∀ c : Dev Cert.ComparedIdeal.nD,
          r.2.mem ((c.tc : Thread Cert.ComparedIdeal.nD Cert.ComparedIdeal.τ).loc Cert.ComparedIdeal.main_v3) = v0 c
          ∧ r.2.mem ((c.tc : Thread Cert.ComparedIdeal.nD Cert.ComparedIdeal.τ).loc Cert.ComparedIdeal.main_v4) = v1 c
          ∧ r.2.mem ((c.tc : Thread Cert.ComparedIdeal.nD Cert.ComparedIdeal.τ).loc Cert.ComparedIdeal.main_v5) = v2 c
          ∧ r.2.mem ((c.tc : Thread Cert.ComparedIdeal.nD Cert.ComparedIdeal.τ).loc Cert.ComparedIdeal.main_arg0) = m ((c.tc : Thread Cert.ComparedIdeal.nD Cert.ComparedIdeal.τ).loc Cert.ComparedIdeal.main_arg0)
          ∧ r.2.mem ((c.tc : Thread Cert.ComparedIdeal.nD Cert.ComparedIdeal.τ).loc Cert.ComparedIdeal.main_arg1) = m ((c.tc : Thread Cert.ComparedIdeal.nD Cert.ComparedIdeal.τ).loc Cert.ComparedIdeal.main_arg1)
          ∧ r.2.mem ((c.tc : Thread Cert.ComparedIdeal.nD Cert.ComparedIdeal.τ).loc Cert.ComparedIdeal.main_arg2) = m ((c.tc : Thread Cert.ComparedIdeal.nD Cert.ComparedIdeal.τ).loc Cert.ComparedIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hCompared : Cert.Compared.Facts) (hComparedIdeal : Cert.ComparedIdeal.Facts) (hReferenceIdeal : Cert.ReferenceIdeal.Facts) (hPre_in_range : Cert.Pre_in_range.Facts),
    quiescent_Kernel (hKernel := hKernel)
    ∧ quiescent_Compared (hCompared := hCompared)
    ∧ quiescent_ComparedIdeal (hComparedIdeal := hComparedIdeal)
    ∧ quiescent_ComparedIdeal_pre_in_range (hComparedIdeal := hComparedIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Compared_ComparedIdeal
    ∧ algebraic_ComparedIdeal_ReferenceIdeal_pre_in_range (hComparedIdeal := hComparedIdeal) (hReferenceIdeal := hReferenceIdeal) (hPre_in_range := hPre_in_range)
-- ==== Pre_in_range.lean ====
abbrev S4x4096x8192 : Shape := ⟨3, ![4, 4096, 8192]⟩
abbrev S8192x7168 : Shape := ⟨2, ![8192, 7168]⟩
abbrev S32x28 : Shape := ⟨2, ![32, 28]⟩
abbrev S_ : Shape := ⟨0, ![]⟩

class Facts : Prop where
  bcast_S_S4x4096x8192 : S_.BroadcastsInDim S4x4096x8192 (![] : Fin 0 → Fin S4x4096x8192.rank)

variable [Facts]

def fn {F : FTy → Type} [FloatOps F] (main_arg0 : FVec F S4x4096x8192 .bf16) (main_arg1 : FVec F S8192x7168 .fp8e4m3) (main_arg2 : FVec F S32x28 .f32) : IVec S4x4096x8192 1 :=
  let main_v0 : FVec F S4x4096x8192 .bf16 := Host.absf main_arg0
  let main_cst : FVec F S_ .bf16 := constant S_ .bf16 0x7F7F#16
  let main_v1 : FVec F S4x4096x8192 .bf16 := broadcastInDim S4x4096x8192 ![] bcast_S_S4x4096x8192 main_cst
  let main_v2 : IVec S4x4096x8192 1 := cmpf .ole main_v0 main_v1
  main_v2
-- ==== Kernel.lean ====
abbrev S4x4096x8192 : Shape := ⟨3, ![4, 4096, 8192]⟩
abbrev S8192x7168 : Shape := ⟨2, ![8192, 7168]⟩
abbrev S32x28 : Shape := ⟨2, ![32, 28]⟩
abbrev S16384x8192 : Shape := ⟨2, ![16384, 8192]⟩
abbrev S16384x32 : Shape := ⟨2, ![16384, 32]⟩
abbrev S256x8192 : Shape := ⟨2, ![256, 8192]⟩
abbrev S256x32 : Shape := ⟨2, ![256, 32]⟩
abbrev S256x256 : Shape := ⟨2, ![256, 256]⟩
abbrev S256 : Shape := ⟨1, ![256]⟩
abbrev S256x1 : Shape := ⟨2, ![256, 1]⟩
abbrev S16384x7168 : Shape := ⟨2, ![16384, 7168]⟩
abbrev S1024x8192 : Shape := ⟨2, ![1024, 8192]⟩
abbrev S8192x512 : Shape := ⟨2, ![8192, 512]⟩
abbrev S1024x512 : Shape := ⟨2, ![1024, 512]⟩
abbrev S1x1 : Shape := ⟨2, ![1, 1]⟩
abbrev S4x4096x7168 : Shape := ⟨3, ![4, 4096, 7168]⟩
abbrev S4x4096x32 : Shape := ⟨3, ![4, 4096, 32]⟩

abbrev nBuf : Space → Nat
  | .hbm => 11
  | .vmem => 15
  | .smem => 1
  | _ => 0

abbrev bufTy : (tb : Table) → Fin (tcTables nBuf tb) → BufTy
  | .hbm, ⟨0, _⟩ => ⟨S4x4096x8192, .bf16⟩
  | .hbm, ⟨1, _⟩ => ⟨S8192x7168, .fp8e4m3⟩
  | .hbm, ⟨2, _⟩ => ⟨S32x28, .f32⟩
  | .hbm, ⟨3, _⟩ => ⟨S16384x8192, .bf16⟩
  | .hbm, ⟨4, _⟩ => ⟨S16384x8192, .fp8e4m3⟩
  | .hbm, ⟨5, _⟩ => ⟨S16384x32, .f32⟩
  | .hbm, ⟨6, _⟩ => ⟨S16384x8192, .bf16⟩
  | .hbm, ⟨7, _⟩ => ⟨S16384x7168, .bf16⟩
  | .hbm, ⟨8, _⟩ => ⟨S4x4096x7168, .bf16⟩
  | .hbm, ⟨9, _⟩ => ⟨S4x4096x8192, .fp8e4m3⟩
  | .hbm, ⟨10, _⟩ => ⟨S4x4096x32, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x32, .f32⟩
  | .local _ .vmem, ⟨5, _⟩ => ⟨S256x32, .f32⟩
  | .local _ .vmem, ⟨6, _⟩ => ⟨S256x8192, .bf16⟩
  | .local _ .vmem, ⟨7, _⟩ => ⟨S256x8192, .bf16⟩
  | .local _ .vmem, ⟨8, _⟩ => ⟨S1024x8192, .bf16⟩
  | .local _ .vmem, ⟨9, _⟩ => ⟨S1024x8192, .bf16⟩
  | .local _ .vmem, ⟨10, _⟩ => ⟨S8192x512, .fp8e4m3⟩
  | .local _ .vmem, ⟨11, _⟩ => ⟨S8192x512, .fp8e4m3⟩
  | .local _ .vmem, ⟨12, _⟩ => ⟨S1024x512, .bf16⟩
  | .local _ .vmem, ⟨13, _⟩ => ⟨S1024x512, .bf16⟩
  | .local _ .vmem, ⟨14, _⟩ => ⟨S8192x512, .bf16⟩
  | .local _ .smem, ⟨0, _⟩ => ⟨S32x28, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 14], ![false, false]⟩

def k1_off1 (i : grid1.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k1_off2 (i : grid1.Coords) (c0_i32_8 : BitVec 32) : Fin 2 → Nat :=
  let c1 : Index := 1#32
  let arg1 : BitVec 32 := BitVec.ofNat 32 (i 1).val
  let c2_i32 : BitVec 32 := 2#32
  let v0 : BitVec 32 := Scalar.muli arg1 c2_i32
  let v23 : BitVec 32 := Scalar.addi v0 c0_i32_8
  let v24 : Index := Scalar.indexCast v23
  ![1, v24.toNat]
def k1_off3 (i : grid1.Coords) (c0_i32_19 : BitVec 32) : Fin 2 → Nat :=
  let c2 : Index := 2#32
  let arg1 : BitVec 32 := BitVec.ofNat 32 (i 1).val
  let c2_i32 : BitVec 32 := 2#32
  let v0 : BitVec 32 := Scalar.muli arg1 c2_i32
  let v45 : BitVec 32 := Scalar.addi v0 c0_i32_19
  let v46 : Index := Scalar.indexCast v45
  ![2, v46.toNat]
def k1_off4 (i : grid1.Coords) (c0_i32_29 : BitVec 32) : Fin 2 → Nat :=
  let c3 : Index := 3#32
  let arg1 : BitVec 32 := BitVec.ofNat 32 (i 1).val
  let c2_i32 : BitVec 32 := 2#32
  let v0 : BitVec 32 := Scalar.muli arg1 c2_i32
  let v67 : BitVec 32 := Scalar.addi v0 c0_i32_29
  let v68 : Index := Scalar.indexCast v67
  ![3, v68.toNat]
def k1_off5 (i : grid1.Coords) (c0_i32_39 : BitVec 32) : Fin 2 → Nat :=
  let c4 : Index := 4#32
  let arg1 : BitVec 32 := BitVec.ofNat 32 (i 1).val
  let c2_i32 : BitVec 32 := 2#32
  let v0 : BitVec 32 := Scalar.muli arg1 c2_i32
  let v89 : BitVec 32 := Scalar.addi v0 c0_i32_39
  let v90 : Index := Scalar.indexCast v89
  ![4, v90.toNat]
def k1_off6 (i : grid1.Coords) (c0_i32_49 : BitVec 32) : Fin 2 → Nat :=
  let c5 : Index := 5#32
  let arg1 : BitVec 32 := BitVec.ofNat 32 (i 1).val
  let c2_i32 : BitVec 32 := 2#32
  let v0 : BitVec 32 := Scalar.muli arg1 c2_i32
  let v111 : BitVec 32 := Scalar.addi v0 c0_i32_49
  let v112 : Index := Scalar.indexCast v111
  ![5, v112.toNat]
def k1_off7 (i : grid1.Coords) (c0_i32_59 : BitVec 32) : Fin 2 → Nat :=
  let c6 : Index := 6#32
  let arg1 : BitVec 32 := BitVec.ofNat 32 (i 1).val
  let c2_i32 : BitVec 32 := 2#32
  let v0 : BitVec 32 := Scalar.muli arg1 c2_i32
  let v133 : BitVec 32 := Scalar.addi v0 c0_i32_59
  let v134 : Index := Scalar.indexCast v133
  ![6, v134.toNat]
def k1_off8 (i : grid1.Coords) (c0_i32_69 : BitVec 32) : Fin 2 → Nat :=
  let c7 : Index := 7#32
  let arg1 : BitVec 32 := BitVec.ofNat 32 (i 1).val
  let c2_i32 : BitVec 32 := 2#32
  let v0 : BitVec 32 := Scalar.muli arg1 c2_i32
  let v155 : BitVec 32 := Scalar.addi v0 c0_i32_69
  let v156 : Index := Scalar.indexCast v155
  ![7, v156.toNat]
def k1_off9 (i : grid1.Coords) (c0_i32_79 : BitVec 32) : Fin 2 → Nat :=
  let c8 : Index := 8#32
  let arg1 : BitVec 32 := BitVec.ofNat 32 (i 1).val
  let c2_i32 : BitVec 32 := 2#32
  let v0 : BitVec 32 := Scalar.muli arg1 c2_i32
  let v177 : BitVec 32 := Scalar.addi v0 c0_i32_79
  let v178 : Index := Scalar.indexCast v177
  ![8, v178.toNat]
def k1_off10 (i : grid1.Coords) (c0_i32_89 : BitVec 32) : Fin 2 → Nat :=
  let c9 : Index := 9#32
  let arg1 : BitVec 32 := BitVec.ofNat 32 (i 1).val
  let c2_i32 : BitVec 32 := 2#32
  let v0 : BitVec 32 := Scalar.muli arg1 c2_i32
  let v199 : BitVec 32 := Scalar.addi v0 c0_i32_89
  let v200 : Index := Scalar.indexCast v199
  ![9, v200.toNat]
def k1_off11 (i : grid1.Coords) (c0_i32_99 : BitVec 32) : Fin 2 → Nat :=
  let c10 : Index := 10#32
  let arg1 : BitVec 32 := BitVec.ofNat 32 (i 1).val
  let c2_i32 : BitVec 32 := 2#32
  let v0 : BitVec 32 := Scalar.muli arg1 c2_i32
  let v221 : BitVec 32 := Scalar.addi v0 c0_i32_99
  let v222 : Index := Scalar.indexCast v221
  ![10, v222.toNat]
def k1_off12 (i : grid1.Coords) (c0_i32_109 : BitVec 32) : Fin 2 → Nat :=
  let c11 : Index := 11#32
  let arg1 : BitVec 32 := BitVec.ofNat 32 (i 1).val
  let c2_i32 : BitVec 32 := 2#32
  let v0 : BitVec 32 := Scalar.muli arg1 c2_i32
  let v243 : BitVec 32 := Scalar.addi v0 c0_i32_109
  let v244 : Index := Scalar.indexCast v243
  ![11, v244.toNat]
def k1_off13 (i : grid1.Coords) (c0_i32_119 : BitVec 32) : Fin 2 → Nat :=
  let c12 : Index := 12#32
  let arg1 : BitVec 32 := BitVec.ofNat 32 (i 1).val
  let c2_i32 : BitVec 32 := 2#32
  let v0 : BitVec 32 := Scalar.muli arg1 c2_i32
  let v265 : BitVec 32 := Scalar.addi v0 c0_i32_119
  let v266 : Index := Scalar.indexCast v265
  ![12, v266.toNat]
def k1_off14 (i : grid1.Coords) (c0_i32_129 : BitVec 32) : Fin 2 → Nat :=
  let c13 : Index := 13#32
  let arg1 : BitVec 32 := BitVec.ofNat 32 (i 1).val
  let c2_i32 : BitVec 32 := 2#32
  let v0 : BitVec 32 := Scalar.muli arg1 c2_i32
  let v287 : BitVec 32 := Scalar.addi v0 c0_i32_129
  let v288 : Index := Scalar.indexCast v287
  ![13, v288.toNat]
def k1_off15 (i : grid1.Coords) (c0_i32_139 : BitVec 32) : Fin 2 → Nat :=
  let c14 : Index := 14#32
  let arg1 : BitVec 32 := BitVec.ofNat 32 (i 1).val
  let c2_i32 : BitVec 32 := 2#32
  let v0 : BitVec 32 := Scalar.muli arg1 c2_i32
  let v309 : BitVec 32 := Scalar.addi v0 c0_i32_139
  let v310 : Index := Scalar.indexCast v309
  ![14, v310.toNat]
def k1_off16 (i : grid1.Coords) (c0_i32_149 : BitVec 32) : Fin 2 → Nat :=
  let c15 : Index := 15#32
  let arg1 : BitVec 32 := BitVec.ofNat 32 (i 1).val
  let c2_i32 : BitVec 32 := 2#32
  let v0 : BitVec 32 := Scalar.muli arg1 c2_i32
  let v331 : BitVec 32 := Scalar.addi v0 c0_i32_149
  let v332 : Index := Scalar.indexCast v331
  ![15, v332.toNat]
def k1_off17 (i : grid1.Coords) (c0_i32_159 : BitVec 32) : Fin 2 → Nat :=
  let c16 : Index := 16#32
  let arg1 : BitVec 32 := BitVec.ofNat 32 (i 1).val
  let c2_i32 : BitVec 32 := 2#32
  let v0 : BitVec 32 := Scalar.muli arg1 c2_i32
  let v353 : BitVec 32 := Scalar.addi v0 c0_i32_159
  let v354 : Index := Scalar.indexCast v353
  ![16, v354.toNat]
def k1_off18 (i : grid1.Coords) (c0_i32_169 : BitVec 32) : Fin 2 → Nat :=
  let c17 : Index := 17#32
  let arg1 : BitVec 32 := BitVec.ofNat 32 (i 1).val
  let c2_i32 : BitVec 32 := 2#32
  let v0 : BitVec 32 := Scalar.muli arg1 c2_i32
  let v375 : BitVec 32 := Scalar.addi v0 c0_i32_169
  let v376 : Index := Scalar.indexCast v375
  ![17, v376.toNat]
def k1_off19 (i : grid1.Coords) (c0_i32_179 : BitVec 32) : Fin 2 → Nat :=
  let c18 : Index := 18#32
  let arg1 : BitVec 32 := BitVec.ofNat 32 (i 1).val
  let c2_i32 : BitVec 32 := 2#32
  let v0 : BitVec 32 := Scalar.muli arg1 c2_i32
  let v397 : BitVec 32 := Scalar.addi v0 c0_i32_179
  let v398 : Index := Scalar.indexCast v397
  ![18, v398.toNat]
def k1_off20 (i : grid1.Coords) (c0_i32_189 : BitVec 32) : Fin 2 → Nat :=
  let c19 : Index := 19#32
  let arg1 : BitVec 32 := BitVec.ofNat 32 (i 1).val
  let c2_i32 : BitVec 32 := 2#32
  let v0 : BitVec 32 := Scalar.muli arg1 c2_i32
  let v419 : BitVec 32 := Scalar.addi v0 c0_i32_189
  let v420 : Index := Scalar.indexCast v419
  ![19, v420.toNat]
def k1_off21 (i : grid1.Coords) (c0_i32_199 : BitVec 32) : Fin 2 → Nat :=
  let c20 : Index := 20#32
  let arg1 : BitVec 32 := BitVec.ofNat 32 (i 1).val
  let c2_i32 : BitVec 32 := 2#32
  let v0 : BitVec 32 := Scalar.muli arg1 c2_i32
  let v441 : BitVec 32 := Scalar.addi v0 c0_i32_199
  let v442 : Index := Scalar.indexCast v441
  ![20, v442.toNat]
def k1_off22 (i : grid1.Coords) (c0_i32_209 : BitVec 32) : Fin 2 → Nat :=
  let c21 : Index := 21#32
  let arg1 : BitVec 32 := BitVec.ofNat 32 (i 1).val
  let c2_i32 : BitVec 32 := 2#32
  let v0 : BitVec 32 := Scalar.muli arg1 c2_i32
  let v463 : BitVec 32 := Scalar.addi v0 c0_i32_209
  let v464 : Index := Scalar.indexCast v463
  ![21, v464.toNat]
def k1_off23 (i : grid1.Coords) (c0_i32_219 : BitVec 32) : Fin 2 → Nat :=
  let c22 : Index := 22#32
  let arg1 : BitVec 32 := BitVec.ofNat 32 (i 1).val
  let c2_i32 : BitVec 32 := 2#32
  let v0 : BitVec 32 := Scalar.muli arg1 c2_i32
  let v485 : BitVec 32 := Scalar.addi v0 c0_i32_219
  let v486 : Index := Scalar.indexCast v485
  ![22, v486.toNat]
def k1_off24 (i : grid1.Coords) (c0_i32_229 : BitVec 32) : Fin 2 → Nat :=
  let c23 : Index := 23#32
  let arg1 : BitVec 32 := BitVec.ofNat 32 (i 1).val
  let c2_i32 : BitVec 32 := 2#32
  let v0 : BitVec 32 := Scalar.muli arg1 c2_i32
  let v507 : BitVec 32 := Scalar.addi v0 c0_i32_229
  let v508 : Index := Scalar.indexCast v507
  ![23, v508.toNat]
def k1_off25 (i : grid1.Coords) (c0_i32_239 : BitVec 32) : Fin 2 → Nat :=
  let c24 : Index := 24#32
  let arg1 : BitVec 32 := BitVec.ofNat 32 (i 1).val
  let c2_i32 : BitVec 32 := 2#32
  let v0 : BitVec 32 := Scalar.muli arg1 c2_i32
  let v529 : BitVec 32 := Scalar.addi v0 c0_i32_239
  let v530 : Index := Scalar.indexCast v529
  ![24, v530.toNat]
def k1_off26 (i : grid1.Coords) (c0_i32_249 : BitVec 32) : Fin 2 → Nat :=
  let c25 : Index := 25#32
  let arg1 : BitVec 32 := BitVec.ofNat 32 (i 1).val
  let c2_i32 : BitVec 32 := 2#32
  let v0 : BitVec 32 := Scalar.muli arg1 c2_i32
  let v551 : BitVec 32 := Scalar.addi v0 c0_i32_249
  let v552 : Index := Scalar.indexCast v551
  ![25, v552.toNat]
def k1_off27 (i : grid1.Coords) (c0_i32_259 : BitVec 32) : Fin 2 → Nat :=
  let c26 : Index := 26#32
  let arg1 : BitVec 32 := BitVec.ofNat 32 (i 1).val
  let c2_i32 : BitVec 32 := 2#32
  let v0 : BitVec 32 := Scalar.muli arg1 c2_i32
  let v573 : BitVec 32 := Scalar.addi v0 c0_i32_259
  let v574 : Index := Scalar.indexCast v573
  ![26, v574.toNat]
def k1_off28 (i : grid1.Coords) (c0_i32_269 : BitVec 32) : Fin 2 → Nat :=
  let c27 : Index := 27#32
  let arg1 : BitVec 32 := BitVec.ofNat 32 (i 1).val
  let c2_i32 : BitVec 32 := 2#32
  let v0 : BitVec 32 := Scalar.muli arg1 c2_i32
  let v595 : BitVec 32 := Scalar.addi v0 c0_i32_269
  let v596 : Index := Scalar.indexCast v595
  ![27, v596.toNat]
def k1_off29 (i : grid1.Coords) (c0_i32_279 : BitVec 32) : Fin 2 → Nat :=
  let c28 : Index := 28#32
  let arg1 : BitVec 32 := BitVec.ofNat 32 (i 1).val
  let c2_i32 : BitVec 32 := 2#32
  let v0 : BitVec 32 := Scalar.muli arg1 c2_i32
  let v617 : BitVec 32 := Scalar.addi v0 c0_i32_279
  let v618 : Index := Scalar.indexCast v617
  ![28, v618.toNat]
def k1_off30 (i : grid1.Coords) (c0_i32_289 : BitVec 32) : Fin 2 → Nat :=
  let c29 : Index := 29#32
  let arg1 : BitVec 32 := BitVec.ofNat 32 (i 1).val
  let c2_i32 : BitVec 32 := 2#32
  let v0 : BitVec 32 := Scalar.muli arg1 c2_i32
  let v639 : BitVec 32 := Scalar.addi v0 c0_i32_289
  let v640 : Index := Scalar.indexCast v639
  ![29, v640.toNat]
def k1_off31 (i : grid1.Coords) (c0_i32_299 : BitVec 32) : Fin 2 → Nat :=
  let c30 : Index := 30#32
  let arg1 : BitVec 32 := BitVec.ofNat 32 (i 1).val
  let c2_i32 : BitVec 32 := 2#32
  let v0 : BitVec 32 := Scalar.muli arg1 c2_i32
  let v661 : BitVec 32 := Scalar.addi v0 c0_i32_299
  let v662 : Index := Scalar.indexCast v661
  ![30, v662.toNat]
def k1_off32 (i : grid1.Coords) (c0_i32_309 : BitVec 32) : Fin 2 → Nat :=
  let c31 : Index := 31#32
  let arg1 : BitVec 32 := BitVec.ofNat 32 (i 1).val
  let c2_i32 : BitVec 32 := 2#32
  let v0 : BitVec 32 := Scalar.muli arg1 c2_i32
  let v683 : BitVec 32 := Scalar.addi v0 c0_i32_309
  let v684 : Index := Scalar.indexCast v683
  ![31, v684.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S32x28 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Compared.lean ====
abbrev S4x4096x8192 : Shape := ⟨3, ![4, 4096, 8192]⟩
abbrev S8192x7168 : Shape := ⟨2, ![8192, 7168]⟩
abbrev S32x28 : Shape := ⟨2, ![32, 28]⟩
abbrev S16384x8192 : Shape := ⟨2, ![16384, 8192]⟩
abbrev S16384x32 : Shape := ⟨2, ![16384, 32]⟩
abbrev S256x8192 : Shape := ⟨2, ![256, 8192]⟩
abbrev S256x32 : Shape := ⟨2, ![256, 32]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S16384x7168 : Shape := ⟨2, ![16384, 7168]⟩
abbrev S1024x8192 : Shape := ⟨2, ![1024, 8192]⟩
abbrev S8192x512 : Shape := ⟨2, ![8192, 512]⟩
abbrev S1024x512 : Shape := ⟨2, ![1024, 512]⟩
abbrev S1x1 : Shape := ⟨2, ![1, 1]⟩
abbrev S4x4096x7168 : Shape := ⟨3, ![4, 4096, 7168]⟩
abbrev S4x4096x32 : Shape := ⟨3, ![4, 4096, 32]⟩

abbrev nBuf : Space → Nat
  | .hbm => 11
  | .vmem => 15
  | .smem => 1
  | _ => 0

abbrev bufTy : (tb : Table) → Fin (tcTables nBuf tb) → BufTy
  | .hbm, ⟨0, _⟩ => ⟨S4x4096x8192, .bf16⟩
  | .hbm, ⟨1, _⟩ => ⟨S8192x7168, .fp8e4m3⟩
  | .hbm, ⟨2, _⟩ => ⟨S32x28, .f32⟩
  | .hbm, ⟨3, _⟩ => ⟨S16384x8192, .bf16⟩
  | .hbm, ⟨4, _⟩ => ⟨S16384x8192, .fp8e4m3⟩
  | .hbm, ⟨5, _⟩ => ⟨S16384x32, .f32⟩
  | .hbm, ⟨6, _⟩ => ⟨S16384x8192, .bf16⟩
  | .hbm, ⟨7, _⟩ => ⟨S16384x7168, .bf16⟩
  | .hbm, ⟨8, _⟩ => ⟨S4x4096x7168, .bf16⟩
  | .hbm, ⟨9, _⟩ => ⟨S4x4096x8192, .fp8e4m3⟩
  | .hbm, ⟨10, _⟩ => ⟨S4x4096x32, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x32, .f32⟩
  | .local _ .vmem, ⟨5, _⟩ => ⟨S256x32, .f32⟩
  | .local _ .vmem, ⟨6, _⟩ => ⟨S256x8192, .bf16⟩
  | .local _ .vmem, ⟨7, _⟩ => ⟨S256x8192, .bf16⟩
  | .local _ .vmem, ⟨8, _⟩ => ⟨S1024x8192, .bf16⟩
  | .local _ .vmem, ⟨9, _⟩ => ⟨S1024x8192, .bf16⟩
  | .local _ .vmem, ⟨10, _⟩ => ⟨S8192x512, .fp8e4m3⟩
  | .local _ .vmem, ⟨11, _⟩ => ⟨S8192x512, .fp8e4m3⟩
  | .local _ .vmem, ⟨12, _⟩ => ⟨S1024x512, .bf16⟩
  | .local _ .vmem, ⟨13, _⟩ => ⟨S1024x512, .bf16⟩
  | .local _ .vmem, ⟨14, _⟩ => ⟨S8192x512, .bf16⟩
  | .local _ .smem, ⟨0, _⟩ => ⟨S32x28, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 14], ![false, false]⟩

def k1_off1 (i : grid1.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k1_off2 (i : grid1.Coords) (c0_i32_8 : BitVec 32) : Fin 2 → Nat :=
  let c1 : Index := 1#32
  let arg1 : BitVec 32 := BitVec.ofNat 32 (i 1).val
  let c2_i32 : BitVec 32 := 2#32
  let v0 : BitVec 32 := Scalar.muli arg1 c2_i32
  let v23 : BitVec 32 := Scalar.addi v0 c0_i32_8
  let v24 : Index := Scalar.indexCast v23
  ![1, v24.toNat]
def k1_off3 (i : grid1.Coords) (c0_i32_19 : BitVec 32) : Fin 2 → Nat :=
  let c2 : Index := 2#32
  let arg1 : BitVec 32 := BitVec.ofNat 32 (i 1).val
  let c2_i32 : BitVec 32 := 2#32
  let v0 : BitVec 32 := Scalar.muli arg1 c2_i32
  let v45 : BitVec 32 := Scalar.addi v0 c0_i32_19
  let v46 : Index := Scalar.indexCast v45
  ![2, v46.toNat]
def k1_off4 (i : grid1.Coords) (c0_i32_29 : BitVec 32) : Fin 2 → Nat :=
  let c3 : Index := 3#32
  let arg1 : BitVec 32 := BitVec.ofNat 32 (i 1).val
  let c2_i32 : BitVec 32 := 2#32
  let v0 : BitVec 32 := Scalar.muli arg1 c2_i32
  let v67 : BitVec 32 := Scalar.addi v0 c0_i32_29
  let v68 : Index := Scalar.indexCast v67
  ![3, v68.toNat]
def k1_off5 (i : grid1.Coords) (c0_i32_39 : BitVec 32) : Fin 2 → Nat :=
  let c4 : Index := 4#32
  let arg1 : BitVec 32 := BitVec.ofNat 32 (i 1).val
  let c2_i32 : BitVec 32 := 2#32
  let v0 : BitVec 32 := Scalar.muli arg1 c2_i32
  let v89 : BitVec 32 := Scalar.addi v0 c0_i32_39
  let v90 : Index := Scalar.indexCast v89
  ![4, v90.toNat]
def k1_off6 (i : grid1.Coords) (c0_i32_49 : BitVec 32) : Fin 2 → Nat :=
  let c5 : Index := 5#32
  let arg1 : BitVec 32 := BitVec.ofNat 32 (i 1).val
  let c2_i32 : BitVec 32 := 2#32
  let v0 : BitVec 32 := Scalar.muli arg1 c2_i32
  let v111 : BitVec 32 := Scalar.addi v0 c0_i32_49
  let v112 : Index := Scalar.indexCast v111
  ![5, v112.toNat]
def k1_off7 (i : grid1.Coords) (c0_i32_59 : BitVec 32) : Fin 2 → Nat :=
  let c6 : Index := 6#32
  let arg1 : BitVec 32 := BitVec.ofNat 32 (i 1).val
  let c2_i32 : BitVec 32 := 2#32
  let v0 : BitVec 32 := Scalar.muli arg1 c2_i32
  let v133 : BitVec 32 := Scalar.addi v0 c0_i32_59
  let v134 : Index := Scalar.indexCast v133
  ![6, v134.toNat]
def k1_off8 (i : grid1.Coords) (c0_i32_69 : BitVec 32) : Fin 2 → Nat :=
  let c7 : Index := 7#32
  let arg1 : BitVec 32 := BitVec.ofNat 32 (i 1).val
  let c2_i32 : BitVec 32 := 2#32
  let v0 : BitVec 32 := Scalar.muli arg1 c2_i32
  let v155 : BitVec 32 := Scalar.addi v0 c0_i32_69
  let v156 : Index := Scalar.indexCast v155
  ![7, v156.toNat]
def k1_off9 (i : grid1.Coords) (c0_i32_79 : BitVec 32) : Fin 2 → Nat :=
  let c8 : Index := 8#32
  let arg1 : BitVec 32 := BitVec.ofNat 32 (i 1).val
  let c2_i32 : BitVec 32 := 2#32
  let v0 : BitVec 32 := Scalar.muli arg1 c2_i32
  let v177 : BitVec 32 := Scalar.addi v0 c0_i32_79
  let v178 : Index := Scalar.indexCast v177
  ![8, v178.toNat]
def k1_off10 (i : grid1.Coords) (c0_i32_89 : BitVec 32) : Fin 2 → Nat :=
  let c9 : Index := 9#32
  let arg1 : BitVec 32 := BitVec.ofNat 32 (i 1).val
  let c2_i32 : BitVec 32 := 2#32
  let v0 : BitVec 32 := Scalar.muli arg1 c2_i32
  let v199 : BitVec 32 := Scalar.addi v0 c0_i32_89
  let v200 : Index := Scalar.indexCast v199
  ![9, v200.toNat]
def k1_off11 (i : grid1.Coords) (c0_i32_99 : BitVec 32) : Fin 2 → Nat :=
  let c10 : Index := 10#32
  let arg1 : BitVec 32 := BitVec.ofNat 32 (i 1).val
  let c2_i32 : BitVec 32 := 2#32
  let v0 : BitVec 32 := Scalar.muli arg1 c2_i32
  let v221 : BitVec 32 := Scalar.addi v0 c0_i32_99
  let v222 : Index := Scalar.indexCast v221
  ![10, v222.toNat]
def k1_off12 (i : grid1.Coords) (c0_i32_109 : BitVec 32) : Fin 2 → Nat :=
  let c11 : Index := 11#32
  let arg1 : BitVec 32 := BitVec.ofNat 32 (i 1).val
  let c2_i32 : BitVec 32 := 2#32
  let v0 : BitVec 32 := Scalar.muli arg1 c2_i32
  let v243 : BitVec 32 := Scalar.addi v0 c0_i32_109
  let v244 : Index := Scalar.indexCast v243
  ![11, v244.toNat]
def k1_off13 (i : grid1.Coords) (c0_i32_119 : BitVec 32) : Fin 2 → Nat :=
  let c12 : Index := 12#32
  let arg1 : BitVec 32 := BitVec.ofNat 32 (i 1).val
  let c2_i32 : BitVec 32 := 2#32
  let v0 : BitVec 32 := Scalar.muli arg1 c2_i32
  let v265 : BitVec 32 := Scalar.addi v0 c0_i32_119
  let v266 : Index := Scalar.indexCast v265
  ![12, v266.toNat]
def k1_off14 (i : grid1.Coords) (c0_i32_129 : BitVec 32) : Fin 2 → Nat :=
  let c13 : Index := 13#32
  let arg1 : BitVec 32 := BitVec.ofNat 32 (i 1).val
  let c2_i32 : BitVec 32 := 2#32
  let v0 : BitVec 32 := Scalar.muli arg1 c2_i32
  let v287 : BitVec 32 := Scalar.addi v0 c0_i32_129
  let v288 : Index := Scalar.indexCast v287
  ![13, v288.toNat]
def k1_off15 (i : grid1.Coords) (c0_i32_139 : BitVec 32) : Fin 2 → Nat :=
  let c14 : Index := 14#32
  let arg1 : BitVec 32 := BitVec.ofNat 32 (i 1).val
  let c2_i32 : BitVec 32 := 2#32
  let v0 : BitVec 32 := Scalar.muli arg1 c2_i32
  let v309 : BitVec 32 := Scalar.addi v0 c0_i32_139
  let v310 : Index := Scalar.indexCast v309
  ![14, v310.toNat]
def k1_off16 (i : grid1.Coords) (c0_i32_149 : BitVec 32) : Fin 2 → Nat :=
  let c15 : Index := 15#32
  let arg1 : BitVec 32 := BitVec.ofNat 32 (i 1).val
  let c2_i32 : BitVec 32 := 2#32
  let v0 : BitVec 32 := Scalar.muli arg1 c2_i32
  let v331 : BitVec 32 := Scalar.addi v0 c0_i32_149
  let v332 : Index := Scalar.indexCast v331
  ![15, v332.toNat]
def k1_off17 (i : grid1.Coords) (c0_i32_159 : BitVec 32) : Fin 2 → Nat :=
  let c16 : Index := 16#32
  let arg1 : BitVec 32 := BitVec.ofNat 32 (i 1).val
  let c2_i32 : BitVec 32 := 2#32
  let v0 : BitVec 32 := Scalar.muli arg1 c2_i32
  let v353 : BitVec 32 := Scalar.addi v0 c0_i32_159
  let v354 : Index := Scalar.indexCast v353
  ![16, v354.toNat]
def k1_off18 (i : grid1.Coords) (c0_i32_169 : BitVec 32) : Fin 2 → Nat :=
  let c17 : Index := 17#32
  let arg1 : BitVec 32 := BitVec.ofNat 32 (i 1).val
  let c2_i32 : BitVec 32 := 2#32
  let v0 : BitVec 32 := Scalar.muli arg1 c2_i32
  let v375 : BitVec 32 := Scalar.addi v0 c0_i32_169
  let v376 : Index := Scalar.indexCast v375
  ![17, v376.toNat]
def k1_off19 (i : grid1.Coords) (c0_i32_179 : BitVec 32) : Fin 2 → Nat :=
  let c18 : Index := 18#32
  let arg1 : BitVec 32 := BitVec.ofNat 32 (i 1).val
  let c2_i32 : BitVec 32 := 2#32
  let v0 : BitVec 32 := Scalar.muli arg1 c2_i32
  let v397 : BitVec 32 := Scalar.addi v0 c0_i32_179
  let v398 : Index := Scalar.indexCast v397
  ![18, v398.toNat]
def k1_off20 (i : grid1.Coords) (c0_i32_189 : BitVec 32) : Fin 2 → Nat :=
  let c19 : Index := 19#32
  let arg1 : BitVec 32 := BitVec.ofNat 32 (i 1).val
  let c2_i32 : BitVec 32 := 2#32
  let v0 : BitVec 32 := Scalar.muli arg1 c2_i32
  let v419 : BitVec 32 := Scalar.addi v0 c0_i32_189
  let v420 : Index := Scalar.indexCast v419
  ![19, v420.toNat]
def k1_off21 (i : grid1.Coords) (c0_i32_199 : BitVec 32) : Fin 2 → Nat :=
  let c20 : Index := 20#32
  let arg1 : BitVec 32 := BitVec.ofNat 32 (i 1).val
  let c2_i32 : BitVec 32 := 2#32
  let v0 : BitVec 32 := Scalar.muli arg1 c2_i32
  let v441 : BitVec 32 := Scalar.addi v0 c0_i32_199
  let v442 : Index := Scalar.indexCast v441
  ![20, v442.toNat]
def k1_off22 (i : grid1.Coords) (c0_i32_209 : BitVec 32) : Fin 2 → Nat :=
  let c21 : Index := 21#32
  let arg1 : BitVec 32 := BitVec.ofNat 32 (i 1).val
  let c2_i32 : BitVec 32 := 2#32
  let v0 : BitVec 32 := Scalar.muli arg1 c2_i32
  let v463 : BitVec 32 := Scalar.addi v0 c0_i32_209
  let v464 : Index := Scalar.indexCast v463
  ![21, v464.toNat]
def k1_off23 (i : grid1.Coords) (c0_i32_219 : BitVec 32) : Fin 2 → Nat :=
  let c22 : Index := 22#32
  let arg1 : BitVec 32 := BitVec.ofNat 32 (i 1).val
  let c2_i32 : BitVec 32 := 2#32
  let v0 : BitVec 32 := Scalar.muli arg1 c2_i32
  let v485 : BitVec 32 := Scalar.addi v0 c0_i32_219
  let v486 : Index := Scalar.indexCast v485
  ![22, v486.toNat]
def k1_off24 (i : grid1.Coords) (c0_i32_229 : BitVec 32) : Fin 2 → Nat :=
  let c23 : Index := 23#32
  let arg1 : BitVec 32 := BitVec.ofNat 32 (i 1).val
  let c2_i32 : BitVec 32 := 2#32
  let v0 : BitVec 32 := Scalar.muli arg1 c2_i32
  let v507 : BitVec 32 := Scalar.addi v0 c0_i32_229
  let v508 : Index := Scalar.indexCast v507
  ![23, v508.toNat]
def k1_off25 (i : grid1.Coords) (c0_i32_239 : BitVec 32) : Fin 2 → Nat :=
  let c24 : Index := 24#32
  let arg1 : BitVec 32 := BitVec.ofNat 32 (i 1).val
  let c2_i32 : BitVec 32 := 2#32
  let v0 : BitVec 32 := Scalar.muli arg1 c2_i32
  let v529 : BitVec 32 := Scalar.addi v0 c0_i32_239
  let v530 : Index := Scalar.indexCast v529
  ![24, v530.toNat]
def k1_off26 (i : grid1.Coords) (c0_i32_249 : BitVec 32) : Fin 2 → Nat :=
  let c25 : Index := 25#32
  let arg1 : BitVec 32 := BitVec.ofNat 32 (i 1).val
  let c2_i32 : BitVec 32 := 2#32
  let v0 : BitVec 32 := Scalar.muli arg1 c2_i32
  let v551 : BitVec 32 := Scalar.addi v0 c0_i32_249
  let v552 : Index := Scalar.indexCast v551
  ![25, v552.toNat]
def k1_off27 (i : grid1.Coords) (c0_i32_259 : BitVec 32) : Fin 2 → Nat :=
  let c26 : Index := 26#32
  let arg1 : BitVec 32 := BitVec.ofNat 32 (i 1).val
  let c2_i32 : BitVec 32 := 2#32
  let v0 : BitVec 32 := Scalar.muli arg1 c2_i32
  let v573 : BitVec 32 := Scalar.addi v0 c0_i32_259
  let v574 : Index := Scalar.indexCast v573
  ![26, v574.toNat]
def k1_off28 (i : grid1.Coords) (c0_i32_269 : BitVec 32) : Fin 2 → Nat :=
  let c27 : Index := 27#32
  let arg1 : BitVec 32 := BitVec.ofNat 32 (i 1).val
  let c2_i32 : BitVec 32 := 2#32
  let v0 : BitVec 32 := Scalar.muli arg1 c2_i32
  let v595 : BitVec 32 := Scalar.addi v0 c0_i32_269
  let v596 : Index := Scalar.indexCast v595
  ![27, v596.toNat]
def k1_off29 (i : grid1.Coords) (c0_i32_279 : BitVec 32) : Fin 2 → Nat :=
  let c28 : Index := 28#32
  let arg1 : BitVec 32 := BitVec.ofNat 32 (i 1).val
  let c2_i32 : BitVec 32 := 2#32
  let v0 : BitVec 32 := Scalar.muli arg1 c2_i32
  let v617 : BitVec 32 := Scalar.addi v0 c0_i32_279
  let v618 : Index := Scalar.indexCast v617
  ![28, v618.toNat]
def k1_off30 (i : grid1.Coords) (c0_i32_289 : BitVec 32) : Fin 2 → Nat :=
  let c29 : Index := 29#32
  let arg1 : BitVec 32 := BitVec.ofNat 32 (i 1).val
  let c2_i32 : BitVec 32 := 2#32
  let v0 : BitVec 32 := Scalar.muli arg1 c2_i32
  let v639 : BitVec 32 := Scalar.addi v0 c0_i32_289
  let v640 : Index := Scalar.indexCast v639
  ![29, v640.toNat]
def k1_off31 (i : grid1.Coords) (c0_i32_299 : BitVec 32) : Fin 2 → Nat :=
  let c30 : Index := 30#32
  let arg1 : BitVec 32 := BitVec.ofNat 32 (i 1).val
  let c2_i32 : BitVec 32 := 2#32
  let v0 : BitVec 32 := Scalar.muli arg1 c2_i32
  let v661 : BitVec 32 := Scalar.addi v0 c0_i32_299
  let v662 : Index := Scalar.indexCast v661
  ![30, v662.toNat]
def k1_off32 (i : grid1.Coords) (c0_i32_309 : BitVec 32) : Fin 2 → Nat :=
  let c31 : Index := 31#32
  let arg1 : BitVec 32 := BitVec.ofNat 32 (i 1).val
  let c2_i32 : BitVec 32 := 2#32
  let v0 : BitVec 32 := Scalar.muli arg1 c2_i32
  let v683 : BitVec 32 := Scalar.addi v0 c0_i32_309
  let v684 : Index := Scalar.indexCast v683
  ![31, v684.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S32x28 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x4096x8192 : Shape := ⟨3, ![4, 4096, 8192]⟩
abbrev S8192x7168 : Shape := ⟨2, ![8192, 7168]⟩
abbrev S32x28 : Shape := ⟨2, ![32, 28]⟩
abbrev S4x4096x7168 : Shape := ⟨3, ![4, 4096, 7168]⟩
abbrev S4x4096x32 : Shape := ⟨3, ![4, 4096, 32]⟩
abbrev S4x4096x32x256 : Shape := ⟨4, ![4, 4096, 32, 256]⟩
abbrev S1x1x1x254 : Shape := ⟨4, ![1, 1, 1, 254]⟩
abbrev S4x4096x32x1 : Shape := ⟨4, ![4, 4096, 32, 1]⟩
abbrev S4x4096x32x254 : Shape := ⟨4, ![4, 4096, 32, 254]⟩
abbrev S16384x8192 : Shape := ⟨2, ![16384, 8192]⟩
abbrev S32x256x28x256 : Shape := ⟨4, ![32, 256, 28, 256]⟩
abbrev S32x1x28x1 : Shape := ⟨4, ![32, 1, 28, 1]⟩
abbrev S16384x7168 : Shape := ⟨2, ![16384, 7168]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x8192, .bf16⟩
  | .hbm, ⟨1, _⟩ => ⟨S8192x7168, .fp8e4m3⟩
  | .hbm, ⟨2, _⟩ => ⟨S32x28, .f32⟩
  | .hbm, ⟨3, _⟩ => ⟨S4x4096x7168, .bf16⟩
  | .hbm, ⟨4, _⟩ => ⟨S4x4096x8192, .fp8e4m3⟩
  | .hbm, ⟨5, _⟩ => ⟨S4x4096x32, .f32⟩
  | .local _ .vmem, ⟨0, _⟩ => ⟨S4x4096x8192, .bf16⟩
  | .local _ .vmem, ⟨1, _⟩ => ⟨S8192x7168, .fp8e4m3⟩
  | .local _ .vmem, ⟨2, _⟩ => ⟨S32x28, .f32⟩
  | .local _ .vmem, ⟨3, _⟩ => ⟨S4x4096x7168, .bf16⟩
  | .local _ .vmem, ⟨4, _⟩ => ⟨S4x4096x8192, .fp8e4m3⟩
  | .local _ .vmem, ⟨5, _⟩ => ⟨S4x4096x32, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/-
  THE POWER-OF-TWO SCALE OF ONE GROUP. The kernel finds the exponent of `t` (the group's largest magnitude over 448) by comparing `t` with
  the numbers whose exponent field is 0, 1, …, 255 and whose other bits are zero: the largest field not above `t` is `t`'s own. The reference
  takes the least power of two above `t`. Here: the two agree, and so do the scale and its inverse, as long as `t` is less than 2 ^ 126.
-/
module

public import Idealize.ShloMosaic.PureOps.Ideal
public import Idealize.ShloMosaic.PureOps.Ideal.Laws
public import Idealize.ShloMosaic.Init

@[expose] public section

set_option maxRecDepth 16384

noncomputable section

namespace Cert.Exponent

open Idealize Idealize.ShloMosaic

/-- The number whose bits are `w` shifted up over the mantissa. -/
def pow (w : BitVec 32) : EReal := Ideal.ofBits .f32 (IntOp.shli .vector w 23#32)

/-- The real power of two. -/
def two (k : ℤ) : ℝ := (2 : ℝ) ^ k

theorem two_pos (k : ℤ) : 0 < two k := zpow_pos (by norm_num) k
theorem two_mono {j k : ℤ} (h : j ≤ k) : two j ≤ two k := zpow_le_zpow_right₀ (by norm_num) h

theorem shifted (k : ℕ) : IntOp.shli .vector (BitVec.ofNat 32 k) 23#32 = BitVec.ofNat 32 k <<< 23 := by
  unfold IntOp.shli
  rw [if_pos (by decide)]
  rfl

theorem mantissa (k : ℕ) : (BitVec.ofNat 32 k <<< 23).extractLsb' 0 23 = 0#23 := by
  apply BitVec.eq_of_toNat_eq
  simp only [BitVec.extractLsb'_toNat, BitVec.toNat_shiftLeft, BitVec.toNat_ofNat, Nat.shiftLeft_eq, Nat.shiftRight_zero]
  omega

theorem expfield (k : ℕ) (h : k < 256) : (BitVec.ofNat 32 k <<< 23).extractLsb' 23 8 = BitVec.ofNat 8 k := by
  apply BitVec.eq_of_toNat_eq
  simp only [BitVec.extractLsb'_toNat, BitVec.toNat_shiftLeft, BitVec.toNat_ofNat, Nat.shiftLeft_eq, Nat.shiftRight_eq_div_pow]
  omega

theorem pow_zero : pow (BitVec.ofNat 32 0) = 0 := by
  rw [pow, shifted]
  simp [Ideal.ofBits, Ideal.ieee]

theorem signbit (k : ℕ) (h : k < 256) : (BitVec.ofNat 32 k <<< 23).extractLsb' (8 + 23) 1 = 0#1 := by
  apply BitVec.eq_of_toNat_eq
  simp only [BitVec.extractLsb'_toNat, BitVec.toNat_shiftLeft, BitVec.toNat_ofNat, Nat.shiftLeft_eq, Nat.shiftRight_eq_div_pow]
  omega

theorem pow_of (k : ℕ) (h1 : 1 ≤ k) (h2 : k ≤ 254) : pow (BitVec.ofNat 32 k) = (two ((k : ℤ) - 127) : EReal) := by
  rw [pow, shifted]
  simp only [Ideal.ofBits, Ideal.ieee]
  rw [mantissa, expfield k (by omega), signbit k (by omega)]
  have hk : (BitVec.ofNat 8 k).toNat = k := by rw [BitVec.toNat_ofNat]; omega
  rw [hk, if_neg (by omega), if_neg (by omega), two]
  congr 1
  have h : (2 : ℝ) ^ ((k : ℤ) - 127) = (2 : ℝ) ^ (23 : ℤ) * (2 : ℝ) ^ ((k : ℤ) - 127 - 23) := by
    rw [← zpow_add₀ (by norm_num)]
    congr 1
    ring
  rw [h]
  norm_num

theorem pow_top : pow (BitVec.ofNat 32 255) = ⊤ := by
  rw [pow, shifted]
  simp [Ideal.ofBits, Ideal.ieee]

/-- The exponent field of `t`, as the kernel finds it: the largest field whose number is not above `t`. -/
def field (t : EReal) : BitVec 32 :=
  Finset.univ.fold IntOp.maxsi 2147483648#32 fun k : Fin 256 => if t < pow (BitVec.ofNat 32 k.val) then 0#32 else BitVec.ofNat 32 k.val

/-- The exponent `n - 126`, as the reference lists it. -/
def exponent (n : ℕ) : EReal := FloatOps.sitofp (F := Ideal) .f32 (IntOp.subi (BitVec.ofNat 32 n) 126#32)

theorem exponent_eq (n : ℕ) (h : n < 254) : exponent n = ((((n : ℤ) - 126 : ℤ) : ℝ) : EReal) := by
  have e : (IntOp.subi (BitVec.ofNat 32 n) 126#32).toInt = (n : ℤ) - 126 := by
    simp only [IntOp.subi, BitVec.toInt_eq_toNat_bmod, BitVec.toNat_sub, BitVec.toNat_ofNat, Int.bmod]
    omega
  unfold exponent
  show (((IntOp.subi (BitVec.ofNat 32 n) 126#32).toInt : ℝ) : EReal) = _
  rw [e]

/-- Twice to the power. -/
def raise (x : EReal) : EReal := FloatOps.exp2 (F := Ideal) (φ := .f32) x

theorem raise_int (k : ℤ) : raise ((k : ℝ) : EReal) = (two k : EReal) := by
  unfold raise two
  refine (Ideal.exp2_coe (k : ℝ)).trans ?_
  congr 1
  exact Real.rpow_intCast 2 k

theorem maxsi_toInt (x y : BitVec 32) : (IntOp.maxsi x y).toInt = max x.toInt y.toInt := by
  unfold IntOp.maxsi
  split <;> rename_i h <;> simp only [BitVec.slt_eq_decide, decide_eq_true_eq] at h <;> omega

/-- A fold by the signed maximum is the word that is attained and bounds the others. -/
theorem fold_maxsi (f : Fin 256 → BitVec 32) (i : Fin 256) (h0 : ∀ j, (f j).toInt ≤ (f i).toInt) (hp : 0 ≤ (f i).toInt) :
    Finset.univ.fold IntOp.maxsi 2147483648#32 f = f i := by
  have key : ∀ s : Finset (Fin 256), (s.fold IntOp.maxsi 2147483648#32 f).toInt ≤ (f i).toInt
      ∧ (i ∈ s → (f i).toInt ≤ (s.fold IntOp.maxsi 2147483648#32 f).toInt) := by
    intro s
    induction s using Finset.induction_on with
    | empty => exact ⟨by rw [Finset.fold_empty]; exact le_trans (by decide) hp, fun h => absurd h (Finset.notMem_empty i)⟩
    | insert j s hj ih =>
      rw [Finset.fold_insert hj, maxsi_toInt]
      refine ⟨max_le (h0 j) ih.1, fun h => ?_⟩
      rcases Finset.mem_insert.mp h with rfl | h
      · exact le_max_left _ _
      · exact le_trans (ih.2 h) (le_max_right _ _)
  exact BitVec.eq_of_toInt_eq (le_antisymm (key Finset.univ).1 ((key Finset.univ).2 (Finset.mem_univ i)))

/-- The least listed exponent whose power is above `t`. -/
def least (t : EReal) : EReal :=
  Finset.univ.fold min (Ideal.ofBits .f32 2139095040#32) fun n : Fin 254 => if t < raise (exponent n.val) then exponent n.val else Ideal.ofBits .f32 1123942400#32

theorem word_toInt (k : ℕ) (h : k < 256) : (BitVec.ofNat 32 k).toInt = k := by
  simp only [BitVec.toInt_eq_toNat_bmod, BitVec.toNat_ofNat, Int.bmod]
  omega

theorem inf_bits : Ideal.ofBits .f32 2139095040#32 = ⊤ := by
  simp [Ideal.ofBits, Ideal.ieee]

theorem bits127 : Ideal.ofBits .f32 1123942400#32 = (((127 : ℤ) : ℝ) : EReal) := by
  simp [Ideal.ofBits, Ideal.ieee, -EReal.coe_mul]
  norm_num

/-- For a positive `t` below `2 ^ 126`: the exponent field is `p` for the least `p` with `t < 2 ^ (p - 126)`, and `p - 126` is the reference's exponent. -/
theorem exists_exponent (t : EReal) (h0 : 0 ≤ t) (h1 : t < (two 126 : EReal)) :
    ∃ p : ℕ, p ≤ 252 ∧ field t = BitVec.ofNat 32 p ∧ least t = ((((p : ℤ) - 126 : ℤ) : ℝ) : EReal) := by
  classical
  have hex : ∃ p : ℕ, t < (two ((p : ℤ) - 126) : EReal) := ⟨252, by simpa using h1⟩
  obtain ⟨p, hp, hmin⟩ : ∃ p : ℕ, t < (two ((p : ℤ) - 126) : EReal) ∧ ∀ n < p, ¬ t < (two ((n : ℤ) - 126) : EReal) :=
    ⟨Nat.find hex, Nat.find_spec hex, fun n hn => Nat.find_min hex hn⟩
  have hp252 : p ≤ 252 := by
    by_contra h
    exact hmin 252 (by omega) (by simpa using h1)
  have habove : ∀ n : ℕ, p ≤ n → t < (two ((n : ℤ) - 126) : EReal) := fun n hn =>
    lt_of_lt_of_le hp (EReal.coe_le_coe_iff.mpr (two_mono (by omega)))
  refine ⟨p, hp252, ?_, ?_⟩
  · have hf : ∀ k : Fin 256, (if t < pow (BitVec.ofNat 32 k.val) then 0#32 else BitVec.ofNat 32 k.val) = if k.val ≤ p then BitVec.ofNat 32 k.val else 0#32 := by
      intro k
      have hk := k.isLt
      by_cases hkp : k.val ≤ p
      · rw [if_pos hkp]
        by_cases hz : k.val = 0
        · rw [hz]; exact ite_self _
        · rw [if_neg]
          rw [pow_of k.val (by omega) (by omega)]
          have := hmin (k.val - 1) (by omega)
          rwa [show (((k.val - 1 : ℕ) : ℤ) - 126) = (k.val : ℤ) - 127 by omega] at this
      · rw [if_neg hkp, if_pos]
        by_cases ht : k.val = 255
        · rw [ht, pow_top]; exact lt_of_lt_of_le h1 le_top
        · rw [pow_of k.val (by omega) (by omega)]
          have := habove (k.val - 1) (by omega)
          rwa [show (((k.val - 1 : ℕ) : ℤ) - 126) = (k.val : ℤ) - 127 by omega] at this
    unfold field
    simp only [hf]
    refine (fold_maxsi _ ⟨p, by omega⟩ (fun j => ?_) ?_).trans ?_
    · have hj := j.isLt
      by_cases h : j.val ≤ p
      · simp only [if_pos h, if_pos (le_refl p)]
        rw [word_toInt _ hj, word_toInt p (by omega)]; exact_mod_cast h
      · simp only [if_neg h, if_pos (le_refl p)]
        rw [word_toInt p (by omega)]; simp
    · simp only [if_pos (le_refl p)]
      rw [word_toInt p (by omega)]; omega
    · simp only [if_pos (le_refl p)]
  · have hr : ∀ n : Fin 254, (if t < raise (exponent n.val) then exponent n.val else Ideal.ofBits .f32 1123942400#32)
        = if p ≤ n.val then ((((n.val : ℤ) - 126 : ℤ) : ℝ) : EReal) else (((127 : ℤ) : ℝ) : EReal) := by
      intro n
      rw [exponent_eq n.val n.isLt, raise_int, bits127]
      by_cases h : p ≤ n.val
      · rw [if_pos h, if_pos (habove _ h)]
      · rw [if_neg h, if_neg (hmin _ (by omega))]
    unfold least
    simp only [hr, inf_bits]
    apply le_antisymm
    · rw [Finset.fold_min_le]
      right
      exact ⟨⟨p, by omega⟩, Finset.mem_univ _, by simp only [if_pos (le_refl p)]; exact le_refl _⟩
    · rw [Finset.le_fold_min]
      refine ⟨le_top, fun n _ => ?_⟩
      split
      · exact EReal.coe_le_coe_iff.mpr (by exact_mod_cast (by omega : (p : ℤ) - 126 ≤ (n.val : ℤ) - 126))
      · exact EReal.coe_le_coe_iff.mpr (by exact_mod_cast (by omega : (p : ℤ) - 126 ≤ 127))

/-- The factor 1/448, rounded to the kernel's format. -/
def factor : EReal := Ideal.ofBits .f32 991054117#32

theorem factor_eq : factor = ((9586981 / 4294967296 : ℝ) : EReal) := by
  unfold factor
  simp [Ideal.ofBits, Ideal.ieee, -EReal.coe_mul]
  norm_num

/-- The kernel's exponent. -/
def word (t : EReal) : BitVec 32 := if t = 0 then 0#32 else IntOp.subi (field t) 126#32

/-- The kernel's scale, and its inverse. -/
def scale (t : EReal) : EReal := pow (IntOp.addi 127#32 (word t))
def inv (t : EReal) : EReal := pow (IntOp.subi 127#32 (word t))

/-- The reference's exponent of a group whose largest magnitude is `a`. -/
def refExponent (a : EReal) : EReal := if a = 0 then 0 else least (a * factor)

/-- Kernel and reference scale a group alike. -/
theorem scales_eq (a : EReal) (h0 : 0 ≤ a) (h1 : a * factor < (two 126 : EReal)) :
    scale (a * factor) = raise (refExponent a) ∧ inv (a * factor) = raise (0 - refExponent a) := by
  have hz : a * factor = 0 ↔ a = 0 := by
    rw [mul_eq_zero, factor_eq]
    constructor
    · rintro (h | h)
      · exact h
      · exact absurd (EReal.coe_eq_zero.mp h) (by norm_num)
    · exact Or.inl
  have hn : ∀ k : ℤ, (0 : EReal) - ((k : ℝ) : EReal) = (((-k : ℤ) : ℝ) : EReal) := fun k => by
    rw [zero_sub, ← EReal.coe_neg, Int.cast_neg]
  unfold scale inv word refExponent
  by_cases ha : a = 0
  · rw [if_pos (hz.mpr ha), if_pos ha]
    have e0 : (0 : EReal) = (((0 : ℤ) : ℝ) : EReal) := by simp
    have e1 : pow (127#32) = (two 0 : EReal) := pow_of 127 (by decide) (by decide)
    constructor
    · rw [show IntOp.addi 127#32 0#32 = 127#32 from rfl, e1]
      rw [e0, raise_int]
    · rw [show IntOp.subi 127#32 0#32 = 127#32 from rfl, e1]
      conv_rhs => rw [show (0 : EReal) - 0 = (((0 : ℤ) : ℝ) : EReal) by simp]
      rw [raise_int]
  · have hf : 0 ≤ a * factor := mul_nonneg h0 (by rw [factor_eq]; exact EReal.coe_nonneg.mpr (by norm_num))
    obtain ⟨p, hp, hw, hl⟩ := exists_exponent (a * factor) hf h1
    rw [if_neg (fun h => ha (hz.mp h)), if_neg ha, hw, hl, hn, raise_int, raise_int]
    constructor
    · rw [show IntOp.addi 127#32 (IntOp.subi (BitVec.ofNat 32 p) 126#32) = BitVec.ofNat 32 (p + 1) by
        apply BitVec.eq_of_toNat_eq
        simp only [IntOp.addi, IntOp.subi, BitVec.toNat_add, BitVec.toNat_sub, BitVec.toNat_ofNat]
        omega, pow_of (p + 1) (by omega) (by omega)]
      congr 2
      push_cast
      ring
    · rw [show IntOp.subi 127#32 (IntOp.subi (BitVec.ofNat 32 p) 126#32) = BitVec.ofNat 32 (253 - p) by
        apply BitVec.eq_of_toNat_eq
        simp only [IntOp.subi, BitVec.toNat_sub, BitVec.toNat_ofNat]
        omega, pow_of (253 - p) (by omega) (by omega)]
      congr 2
      omega

/-- A code: the value times the inverse scale, clipped. -/
def clip (x : EReal) : EReal := min (Ideal.ofBits .f32 1138753536#32) (max (Ideal.ofBits .f32 3286237184#32) x)

/-- The largest magnitude of a group. -/
def peak (f : Fin 256 → EReal) : EReal :=
  Finset.univ.fold max (Ideal.ofBits .f32 4286578688#32) fun k => FloatOps.absf (F := Ideal) (φ := .f32) (f k)

theorem peak_nonneg (f : Fin 256 → EReal) : 0 ≤ peak f := by
  unfold peak
  rw [Finset.le_fold_max]
  right
  refine ⟨0, Finset.mem_univ _, ?_⟩
  show 0 ≤ max (f 0) (-(f 0))
  rcases le_total 0 (f 0) with h | h
  · exact le_trans h (le_max_left _ _)
  · exact le_trans (EReal.neg_nonneg.mpr h) (le_max_right _ _)

/-- The largest finite number of the input's format. -/
theorem largest : Ideal.ofBits .bf16 32639#16 = ((255 * 2 ^ 120 : ℝ) : EReal) := by
  simp [Ideal.ofBits, Ideal.ieee, -EReal.coe_mul]

theorem neg_inf_bits : Ideal.ofBits .f32 4286578688#32 = ⊥ := by
  simp [Ideal.ofBits, Ideal.ieee]

/-- A group of finite numbers has its `t` below `2 ^ 126`. -/
theorem peak_bound (f : Fin 256 → EReal) (h : ∀ k, max (f k) (-(f k)) ≤ Ideal.ofBits .bf16 32639#16) : peak f * factor < (two 126 : EReal) := by
  have hp : peak f ≤ ((255 * 2 ^ 120 : ℝ) : EReal) := by
    unfold peak
    rw [Finset.fold_max_le, neg_inf_bits]
    exact ⟨bot_le, fun k _ => largest ▸ h k⟩
  refine lt_of_le_of_lt (mul_le_mul_of_nonneg_right hp (by rw [factor_eq]; exact EReal.coe_nonneg.mpr (by norm_num))) ?_
  rw [factor_eq, ← EReal.coe_mul, EReal.coe_lt_coe_iff, two]
  norm_num

end Cert.Exponent

end
-- ==== Proof.Tiles.lean ====
/-
  WHAT THE QUANTISER COMPUTES OF ONE TILE: 256 rows of one group of 256 columns. Each row has its scale, the power of two of its largest
  magnitude; its codes are its values times the inverse scale, clipped; and its dequantised values are the codes times the scale.
-/
module

public import proofs.«01_k».proof.Proof.Exponent
public import proofs.«01_k».proof.Proof.Gen.ComparedIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ComparedIdeal

open Idealize Idealize.ShloMosaic Cert.ComparedIdeal.Gen Cert.Exponent

/-- `t` of row `r` of a tile: its largest magnitude over 448. -/
def tileT (v : Vec Ideal S256x256 .bf16) (r : Fin 256) : EReal := peak (fun k => v (ix2 r k)) * factor

theorem tile_scale (v : Vec Ideal S256x256 .bf16) (r : Fin 256) (q : Fin 1) : (k0_pay4 (F := Ideal) v (ix2 r q) : EReal) = scale (tileT v r) := by
  pointwise [k0_pay4, k0_pay3, k0_pay2]
  rfl

theorem tile_code (v : Vec Ideal S256x256 .bf16) (r : Fin 256) (q : Fin 256) :
    (k0_pay6 (F := Ideal) (k0_pay5 v) (ix2 r q) : EReal) = clip ((v (ix2 r q) : EReal) * inv (tileT v r)) := by
  pointwise [k0_pay6, k0_pay5, k0_pay3, k0_pay2]
  rfl

theorem tile_value (v : Vec Ideal S256x256 .bf16) (r : Fin 256) (q : Fin 256) :
    (k0_pay7 (F := Ideal) (k0_pay4 v) (k0_pay5 v) (ix2 r q) : EReal) = (k0_pay6 (F := Ideal) (k0_pay5 v) (ix2 r q) : EReal) * (k0_pay4 (F := Ideal) v (ix2 r 0) : EReal) := by
  unfold k0_pay7
  generalize k0_pay6 (F := Ideal) (k0_pay5 v) = a
  generalize k0_pay4 (F := Ideal) v = b
  pointwise

end Cert.ComparedIdeal

end
-- ==== Proof.Blocks.lean ====
/-
  WHAT ONE GRID POINT OF THE QUANTISER WRITES: 256 rows, of which each of the 32 groups of 256 columns is one tile.
-/
module

public import proofs.«01_k».proof.Proof.Tiles

@[expose] public section

set_option maxRecDepth 16384

noncomputable section

namespace Cert.ComparedIdeal

open Idealize Idealize.ShloMosaic Cert.ComparedIdeal.Gen Cert.Exponent

/-- The tile of group `g` of a block of rows. -/
def tile (x : Vec Ideal S256x8192 .bf16) (g : Fin 32) : Vec Ideal S256x256 .bf16 :=
  fun y => x (ix2 (n0 := 256) (n1 := 8192) (y 0) ⟨g.val * 256 + (y 1).val, by have : (y 1).val < 256 := (y 1).isLt; omega⟩)

/-- The group of a column of the block, and the column within the group. -/
def colGroup (y : S256x8192.Idx) : Fin 32 := ⟨(y 1).val / 256, by have : (y 1).val < 8192 := (y 1).isLt; omega⟩
def within (y : S256x8192.Idx) : S256x256.Idx := ix2 (n0 := 256) (n1 := 256) (y 0) ⟨(y 1).val % 256, by omega⟩

/-- A load of 256 columns is the tile of their group. -/
theorem tile_eq (x : Vec Ideal S256x8192 .bf16) {off : Fin 2 → ℕ} (inb : ∀ a, off a + (![256, 256] : Fin 2 → ℕ) a ≤ S256x8192.size a) (g : Fin 32)
    (h0 : off 0 = 0) (h1 : off 1 = g.val * 256) : View.ld x (Rect.unit off ![256, 256] inb) = tile x g := by
  funext y
  have hy0 : (y 0).val < 256 := (y 0).isLt
  rw [View.ld_unit_apply_of x off ![256, 256] inb y (ix2 (n0 := 256) (n1 := 8192) (y 0) ⟨g.val * 256 + (y 1).val, by have : (y 1).val < 256 := (y 1).isLt; omega⟩)]
  · rfl
  · intro a
    fin_cases a
    · show (y 0).val = off 0 + (y 0).val; omega
    · show g.val * 256 + (y 1).val = off 1 + (y 1).val; omega

/-- A function of tiles, at a piece of 256 columns, is that function of the tile of the piece's group. -/
theorem piece (f : Vec Ideal S256x256 .bf16 → S256x256.Idx → EReal) (x : Vec Ideal S256x8192 .bf16) {off : Fin 2 → ℕ}
    (inb : ∀ a, off a + (![256, 256] : Fin 2 → ℕ) a ≤ S256x8192.size a)
    (y : S256x8192.Idx) (z : S256x256.Idx) (h0 : off 0 = 0) (h1 : off 1 = (y 1).val / 256 * 256)
    (e0 : (y 0).val = off 0 + (z 0).val) (e1 : (y 1).val = off 1 + (z 1).val) :
    f (View.ld x (Rect.unit off ![256, 256] inb)) z = f (tile x (colGroup y)) (within y) := by
  have hz1 : (z 1).val < 256 := (z 1).isLt
  rw [tile_eq x inb (colGroup y) h0 h1]
  congr 1
  refine (ix2_eta z).symm.trans ?_
  unfold within
  congr 1
  · exact Fin.ext (by omega)
  · exact Fin.ext (by show (z 1).val = (y 1).val % 256; omega)

/-- The same for a function with one value per row, kept in the group's column. -/
theorem column (f : Vec Ideal S256x256 .bf16 → S256x1.Idx → EReal) (x : Vec Ideal S256x8192 .bf16) {off : Fin 2 → ℕ}
    (inb : ∀ a, off a + (![256, 256] : Fin 2 → ℕ) a ≤ S256x8192.size a)
    (y : S256x32.Idx) (z : S256x1.Idx) (h0 : off 0 = 0) (h1 : off 1 = (y 1).val * 256) (e0 : (y 0).val = (z 0).val) :
    f (View.ld x (Rect.unit off ![256, 256] inb)) z = f (tile x (y 1)) (ix2 (n0 := 256) (n1 := 1) (y 0) 0) := by
  have hz1 : (z 1).val < 1 := (z 1).isLt
  rw [tile_eq x inb (y 1) h0 h1]
  congr 1
  refine (ix2_eta z).symm.trans ?_
  congr 1
  · exact Fin.ext e0.symm
  · exact Fin.ext (by show (z 1).val = 0; omega)

/-- The codes a grid point writes. -/
theorem codes_block (x : Vec Ideal S256x8192 .bf16) (y : S256x8192.Idx) :
    out0_1 (F := Ideal) x y = k0_pay6 (F := Ideal) (k0_pay5 (tile x (colGroup y))) (within y) := by
  unfold_out out0_1
  canon_tiles z h using View.cover_of_tiledL (s := S256x8192) _ S256x256.size (by sl_kernel_rfl) y
  all_goals
    refine piece (fun v => k0_pay6 (F := Ideal) (k0_pay5 v)) x _ y z ?_ ?_ ?_ ?_
    · rfl
    · simp; omega
    · simpa using h0
    · simpa using h1

/-- The scales a grid point writes. -/
theorem scales_block (x : Vec Ideal S256x8192 .bf16) (y : S256x32.Idx) :
    out0_2 (F := Ideal) x y = k0_pay4 (F := Ideal) (tile x (y 1)) (ix2 (n0 := 256) (n1 := 1) (y 0) 0) := by
  unfold_out out0_2
  canon_tiles z h using View.cover_of_tiledL (s := S256x32) _ S256x1.size (by sl_kernel_rfl) y
  all_goals
    refine column (fun v => k0_pay4 (F := Ideal) v) x _ y z ?_ ?_ ?_
    · rfl
    · simp; omega
    · omega

/-- The dequantised values a grid point writes. -/
theorem values_block (x : Vec Ideal S256x8192 .bf16) (y : S256x8192.Idx) :
    out0_3 (F := Ideal) x y = k0_pay7 (F := Ideal) (k0_pay4 (tile x (colGroup y))) (k0_pay5 (tile x (colGroup y))) (within y) := by
  unfold_out out0_3
  canon_tiles z h using View.cover_of_tiledL (s := S256x8192) _ S256x256.size (by sl_kernel_rfl) y
  all_goals
    refine piece (fun v => k0_pay7 (F := Ideal) (k0_pay4 v) (k0_pay5 v)) x _ y z ?_ ?_ ?_ ?_
    · rfl
    · simp; omega
    · simpa using h0
    · simpa using h1

end Cert.ComparedIdeal

end
-- ==== Proof.QuantArrays.lean ====
/-
  WHAT THE QUANTISER'S THREE ARRAYS HOLD. The grid points write blocks of 256 rows, which tile the arrays, so each array holds at every index what
  the tile of its row and group gives there.
-/
module

public import proofs.«01_k».proof.Proof.Blocks
public import Idealize.ShloMosaic.Lib.Pipeline.Covers

@[expose] public section

set_option maxRecDepth 16384

noncomputable section

namespace Cert.ComparedIdeal

open Idealize Idealize.ShloMosaic Idealize.ShloMosaic.TcCoe Idealize.SL.Sem Cert.ComparedIdeal.Gen Cert.Exponent

/-- `t` of row `r` and group `g` of the input as one matrix of rows. -/
def rowT (x : Vec Ideal S16384x8192 .bf16) (r : Fin 16384) (g : Fin 32) : EReal :=
  peak (fun j => x (ix2 (n0 := 16384) (n1 := 8192) r ⟨g.val * 256 + j.val, by omega⟩)) * factor

/-- The group of a column. -/
def grp (k : Fin 8192) : Fin 32 := ⟨k.val / 256, by omega⟩

def codesOf (x : Vec Ideal S16384x8192 .bf16) : Vec Ideal S16384x8192 .fp8e4m3 :=
  fun i => clip ((x i : EReal) * inv (rowT x (i 0) (grp (i 1))))

def scalesOf (x : Vec Ideal S16384x8192 .bf16) : Vec Ideal S16384x32 .f32 :=
  fun i => scale (rowT x (i 0) (i 1))

def valuesOf (x : Vec Ideal S16384x8192 .bf16) : Vec Ideal S16384x8192 .bf16 :=
  fun i => clip ((x i : EReal) * inv (rowT x (i 0) (grp (i 1)))) * scale (rowT x (i 0) (grp (i 1)))

/-- A grid coordinate, as a word, is itself. -/
theorem coord_word {k n : ℕ} (hk : k < n) (hn : n ≤ 224) : (BitVec.ofNat 32 k).toNat = k := by
  rw [BitVec.toNat_ofNat]
  exact Nat.mod_eq_of_lt (by omega)

theorem qindex0 (t : Fin cfg0.N) : win0_0.index t 0 = (grid0.coords t 0).val ∧ win0_0.index t 1 = 0 :=
  ⟨coord_word (n := 64) (grid0.coords t 0).isLt (by decide), rfl⟩
theorem qindex1 (t : Fin cfg0.N) : win0_1.index t 0 = (grid0.coords t 0).val ∧ win0_1.index t 1 = 0 :=
  ⟨coord_word (n := 64) (grid0.coords t 0).isLt (by decide), rfl⟩
theorem qindex2 (t : Fin cfg0.N) : win0_2.index t 0 = (grid0.coords t 0).val ∧ win0_2.index t 1 = 0 :=
  ⟨coord_word (n := 64) (grid0.coords t 0).isLt (by decide), rfl⟩
theorem qindex3 (t : Fin cfg0.N) : win0_3.index t 0 = (grid0.coords t 0).val ∧ win0_3.index t 1 = 0 :=
  ⟨coord_word (n := 64) (grid0.coords t 0).isLt (by decide), rfl⟩

theorem qcovers1 : (cfg0.win 1).Covers :=
  (cfg0.win 1).covers_of_indexMap_surj rfl (by decide) fun β =>
    ⟨fun a => match a with | ⟨0, _⟩ => β 0, fun a => match a with
      | ⟨0, _⟩ => coord_word (n := 64) (β 0).isLt (by decide)
      | ⟨1, _⟩ => (by have : (β 1).val < 1 := (β 1).isLt; show 0 = (β 1).val; omega)⟩
theorem qcovers2 : (cfg0.win 2).Covers :=
  (cfg0.win 2).covers_of_indexMap_surj rfl (by decide) fun β =>
    ⟨fun a => match a with | ⟨0, _⟩ => β 0, fun a => match a with
      | ⟨0, _⟩ => coord_word (n := 64) (β 0).isLt (by decide)
      | ⟨1, _⟩ => (by have : (β 1).val < 1 := (β 1).isLt; show 0 = (β 1).val; omega)⟩
theorem qcovers3 : (cfg0.win 3).Covers :=
  (cfg0.win 3).covers_of_indexMap_surj rfl (by decide) fun β =>
    ⟨fun a => match a with | ⟨0, _⟩ => β 0, fun a => match a with
      | ⟨0, _⟩ => coord_word (n := 64) (β 0).isLt (by decide)
      | ⟨1, _⟩ => (by have : (β 1).val < 1 := (β 1).isLt; show 0 = (β 1).val; omega)⟩

variable (V : (c : Dev nD) → (b : Ref sig .tc) → Buf (Elt Ideal) ((c : Thread nD τ).loc b))

/-- The input, as the quantiser finds it. -/
abbrev entry (c : Dev nD) : Vec Ideal S16384x8192 .bf16 := V c main_v0

/-- A value of the block of rows a grid point reads. -/
theorem iblk_apply (c : Dev nD) (t : Fin cfg0.N) (r : Fin 256) (k : Fin 8192) :
    iblk0 V c 0 t (ix2 r k) = entry V c (ix2 (n0 := 16384) (n1 := 8192)
      ⟨256 * (grid0.coords t 0).val + r.val, by have : (grid0.coords t 0).val < 64 := (grid0.coords t 0).isLt; omega⟩ k) := by
  blk_ext [iblk0, qindex0 t]

/-- The tile of a group in the block a grid point reads has the group's `t`. -/
theorem tileT_iblk (c : Dev nD) (t : Fin cfg0.N) (r : Fin 256) (g : Fin 32) :
    tileT (tile (iblk0 V c 0 t) g) r = rowT (entry V c)
      ⟨256 * (grid0.coords t 0).val + r.val, by have : (grid0.coords t 0).val < 64 := (grid0.coords t 0).isLt; omega⟩ g := by
  unfold tileT rowT
  congr 2
  funext j
  exact iblk_apply V c t r ⟨g.val * 256 + j.val, by omega⟩

theorem tile_within (c : Dev nD) (t : Fin cfg0.N) (r : Fin 256) (k : Fin 8192) :
    tile (iblk0 V c 0 t) (colGroup (ix2 r k)) (within (ix2 r k)) = entry V c (ix2 (n0 := 16384) (n1 := 8192)
      ⟨256 * (grid0.coords t 0).val + r.val, by have : (grid0.coords t 0).val < 64 := (grid0.coords t 0).isLt; omega⟩ k) := by
  refine Eq.trans ?_ (iblk_apply V c t r k)
  unfold tile within colGroup
  congr 2
  apply Fin.ext
  show k.val / 256 * 256 + k.val % 256 = k.val
  omega

theorem codes_array (c : Dev nD) : (dat0 V c).arrAt 1 cfg0.N = codesOf (entry V c) := by
  refine (dat0 V c).arrAt_eq_of_covers 1 _ qcovers1 fun t hf y => ?_
  blk_simp
  rw [after0_1]
  have h0 : (grid0.coords t 0).val < 64 := (grid0.coords t 0).isLt
  obtain ⟨r, k, rfl⟩ : ∃ (r : Fin 256) (k : Fin 8192), y = ix2 r k := ⟨y 0, y 1, (ix2_eta y).symm⟩
  have e : (win0_1.blk t).view.emb (ix2 r k) = ix2 (n0 := 16384) (n1 := 8192) ⟨256 * (grid0.coords t 0).val + r.val, by omega⟩ k := by
    blk_ext [qindex1 t]
  rw [e, codes_block]
  refine (tile_code _ _ _).trans ?_
  unfold codesOf
  have h1 := tile_within V c t r k
  have h2 := tileT_iblk V c t r (grp k)
  exact congrArg₂ (fun a b : EReal => clip (a * inv b)) h1 h2

theorem values_array (c : Dev nD) : (dat0 V c).arrAt 3 cfg0.N = valuesOf (entry V c) := by
  refine (dat0 V c).arrAt_eq_of_covers 3 _ qcovers3 fun t hf y => ?_
  blk_simp
  rw [after0_3]
  have h0 : (grid0.coords t 0).val < 64 := (grid0.coords t 0).isLt
  obtain ⟨r, k, rfl⟩ : ∃ (r : Fin 256) (k : Fin 8192), y = ix2 r k := ⟨y 0, y 1, (ix2_eta y).symm⟩
  have e : (win0_3.blk t).view.emb (ix2 r k) = ix2 (n0 := 16384) (n1 := 8192) ⟨256 * (grid0.coords t 0).val + r.val, by omega⟩ k := by
    blk_ext [qindex3 t]
  rw [e, values_block]
  refine (tile_value _ _ _).trans ?_
  refine (congrArg₂ (fun a b : EReal => a * b) (tile_code _ _ _) (tile_scale _ _ _)).trans ?_
  unfold valuesOf
  have h1 := tile_within V c t r k
  have h2 := tileT_iblk V c t r (grp k)
  exact congrArg₂ (fun a b : EReal => clip (a * inv b) * scale b) h1 h2

theorem scales_array (c : Dev nD) : (dat0 V c).arrAt 2 cfg0.N = scalesOf (entry V c) := by
  refine (dat0 V c).arrAt_eq_of_covers 2 _ qcovers2 fun t hf y => ?_
  blk_simp
  rw [after0_2]
  have h0 : (grid0.coords t 0).val < 64 := (grid0.coords t 0).isLt
  obtain ⟨r, g, rfl⟩ : ∃ (r : Fin 256) (g : Fin 32), y = ix2 r g := ⟨y 0, y 1, (ix2_eta y).symm⟩
  have e : (win0_2.blk t).view.emb (ix2 r g) = ix2 (n0 := 16384) (n1 := 32) ⟨256 * (grid0.coords t 0).val + r.val, by omega⟩ g := by
    blk_ext [qindex2 t]
  rw [e, scales_block]
  refine (tile_scale _ _ _).trans ?_
  unfold scalesOf
  exact congrArg scale (tileT_iblk V c t r g)

end Cert.ComparedIdeal

end
-- ==== Proof.Product.lean ====
/-
  WHAT ONE BLOCK OF THE PRODUCT COMPUTES. At each grid point the kernel fills its scratch, in 64 tiles of 256 by 256, with the weights of the
  point's 512 columns, each code times the scale of its group, and multiplies the point's 1024 rows of the dequantised input by it. Here: the
  scratch, read as one array, is `dequant`, and so the block written is the product with `dequant`.
-/
module

public import proofs.«01_k».proof.Proof.Gen.ComparedIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ComparedIdeal

open Idealize Idealize.ShloMosaic Cert.ComparedIdeal.Gen

/-- Where the scale of the block's weight `y` lies in the table: the row of groups of `y`'s row, the column of groups of `y`'s column (two per block). -/
def scaleIdx (i : grid1.Coords) (y : S8192x512.Idx) : S32x28.Idx :=
  ix2 (n0 := 32) (n1 := 28) ⟨(y 0).val / 256, by have : (y 0).val < 8192 := (y 0).isLt; omega⟩
    ⟨2 * (i 1).val + (y 1).val / 256, by
      have h1 : (y 1).val < 512 := (y 1).isLt
      have hi : (i 1).val < 14 := (i 1).isLt
      omega⟩

/-- The weights of a block's columns: each code times the scale of its group. -/
def dequant (i : grid1.Coords) (x0 : Vec Ideal S32x28 .f32) (x2 : Vec Ideal S8192x512 .fp8e4m3) : Vec Ideal S8192x512 .bf16 :=
  fun y => (x2 y : EReal) * (x0 (scaleIdx i y) : EReal)

/-- The column of groups, as the kernel computes it in words. -/
theorem column_word (n : Fin 14) (b : BitVec 32) (hb : b.toNat < 2) :
    (Scalar.indexCast (Scalar.addi (Scalar.muli (BitVec.ofNat 32 n.val) 2#32) b)).toNat = 2 * n.val + b.toNat := by
  have hn := n.isLt
  simp only [Scalar.indexCast, Scalar.addi, Scalar.muli, IntOp.addi, IntOp.muli, BitVec.toNat_add, BitVec.toNat_mul, BitVec.toNat_ofNat]
  omega

/-- One tile of the scratch: the tile of group row `g` and of the block's group column `b` holds `dequant` where it lies. -/
theorem tile_apply (i : grid1.Coords) (x0 : Vec Ideal S32x28 .f32) (x2 : Vec Ideal S8192x512 .fp8e4m3)
    {off : Fin 2 → ℕ} (inb : ∀ a, off a + (![1, 1] : Fin 2 → ℕ) a ≤ S32x28.size a) (j)
    {off2 : Fin 2 → ℕ} (inb2 : ∀ a, off2 a + (![256, 256] : Fin 2 → ℕ) a ≤ S8192x512.size a)
    {g : ℕ} {b : BitVec 32} (y : S8192x512.Idx) (x : S256x256.Idx)
    (hoff : off = ![g, (Scalar.indexCast (Scalar.addi (Scalar.muli (BitVec.ofNat 32 (i 1).val) 2#32) b)).toNat])
    (hb : b.toNat < 2) (h0 : (y 0).val = off2 0 + (x 0).val) (h1 : (y 1).val = off2 1 + (x 1).val)
    (hg : off2 0 = 256 * g) (hb' : off2 1 = 256 * b.toNat) :
    shapeCast S256x256 (mulf (F := Ideal) (s := S256x256) (φ := .bf16) (extf .bf16 (View.ld x2 (Rect.unit off2 ![256, 256] inb2)) bitsLt_fp8e4m3_bf16)
      (broadcast S256x256 (Scalar.truncf .bf16 bitsLt_bf16_f32 (View.ld x0 (Rect.unit off ![1, 1] inb) j)))) shapeCasts_S256x256_S256x256 x
    = dequant i x0 x2 y := by
  have hx0 : (x 0).val < 256 := (x 0).isLt
  have hx1 : (x 1).val < 256 := (x 1).isLt
  have hw := column_word (i 1) b hb
  rw [shapeCast_self]
  show (View.ld x2 (Rect.unit off2 ![256, 256] inb2) x : EReal) * (View.ld x0 (Rect.unit off ![1, 1] inb) j : EReal) = _
  rw [View.ld_unit_apply_of x2 off2 ![256, 256] inb2 x y (by intro a; fin_cases a; exact h0; exact h1),
    View.ld_unit_apply_of x0 off ![1, 1] inb j (scaleIdx i y)]
  · rfl
  · have hj0 : (j 0).val < 1 := (j 0).isLt
    have hj1 : (j 1).val < 1 := (j 1).isLt
    subst hoff
    intro a
    fin_cases a
    · show (y 0).val / 256 = g + (j 0).val
      omega
    · show 2 * (i 1).val + (y 1).val / 256 = (Scalar.indexCast (Scalar.addi (Scalar.muli (BitVec.ofNat 32 (i 1).val) 2#32) b)).toNat + (j 1).val
      omega

/-- The block a grid point writes: its rows times `dequant`. -/
theorem out_block (c : Dev nD) (i : grid1.Coords) (arg2 : Memref sig .tc .smem S32x28 .f32) (harg2 : arg2.IsWhole)
    (arg3 : Memref sig .tc .vmem S1024x8192 .bf16) (harg3 : arg3.IsWhole) (arg4 : Memref sig .tc .vmem S8192x512 .fp8e4m3) (harg4 : arg4.IsWhole)
    (arg5 : Memref sig .tc .vmem S1024x512 .bf16) (harg5 : arg5.IsWhole) (arg6 : Memref sig .tc .vmem S8192x512 .bf16) (harg6 : arg6.IsWhole)
    (x0 : Vec Ideal S32x28 .f32) (x1 : Vec Ideal S1024x8192 .bf16) (x2 : Vec Ideal S8192x512 .fp8e4m3) :
    out1_A_3 (F := Ideal) c i arg2 harg2 arg3 harg3 arg4 harg4 arg5 harg5 arg6 harg6 x0 x1 x2 = k1_pay2 x1 (dequant i x0 x2) := by
  frame_out
  congr 1
  rw [View.readCov_eq_canon_ld, View.ld_unit_zero]
  · funext y
    canon_tiles x h using View.cover_of_tiledL (s := S8192x512) _ S256x256.size (by sl_kernel_rfl) y
    all_goals open_payloads
    all_goals
      apply tile_apply (hoff := rfl)
      · decide
      · simpa using h0
      · simpa using h1
      · rfl
      · rfl
  · decide
  · intro y; exact View.cover_of_tiledL (s := S8192x512) _ S256x256.size (by sl_kernel_rfl) y

/-- A value of the block: the sum over the 8192 columns of the row of the input times the weights. -/
theorem out_block_apply (x1 : Vec Ideal S1024x8192 .bf16) (w : Vec Ideal S8192x512 .bf16) (r : Fin 1024) (q : Fin 512) :
    (k1_pay2 (F := Ideal) x1 w (ix2 r q) : EReal) = ∑ k : Fin 8192, (x1 (ix2 r k) : EReal) * (w (ix2 k q) : EReal) := by
  pointwise [k1_pay2]

end Cert.ComparedIdeal

end
-- ==== Proof.ProductArray.lean ====
/-
  WHAT THE PRODUCT'S ARRAY HOLDS. The blocks of 1024 rows by 512 columns that the grid points write tile it, so every value of it is the sum over
  the 8192 columns of the dequantised input's row times the weights.
-/
module

public import proofs.«01_k».proof.Proof.Product
public import Idealize.ShloMosaic.Lib.Pipeline.Covers

@[expose] public section

set_option maxRecDepth 16384

noncomputable section

namespace Cert.ComparedIdeal

open Idealize Idealize.ShloMosaic Idealize.ShloMosaic.TcCoe Idealize.SL.Sem Cert.ComparedIdeal.Gen

/-- Where the scale of the weight at row `k`, column `n` lies in the table. -/
def group (k : Fin 8192) (n : Fin 7168) : S32x28.Idx :=
  ix2 (n0 := 32) (n1 := 28) ⟨k.val / 256, by omega⟩ ⟨n.val / 256, by omega⟩

/-- The product of the dequantised input and the weights. -/
def productOf (xb : Vec Ideal S16384x8192 .bf16) (w : Vec Ideal S8192x7168 .fp8e4m3) (ws : Vec Ideal S32x28 .f32) : Vec Ideal S16384x7168 .bf16 :=
  fun i => (∑ k : Fin 8192, (xb (ix2 (n0 := 16384) (n1 := 8192) (i 0) k) : EReal)
    * ((w (ix2 (n0 := 8192) (n1 := 7168) k (i 1)) : EReal) * (ws (group k (i 1)) : EReal)) : EReal)

/-- A grid coordinate, as a word, is itself. -/
theorem coord_word1 {k n : ℕ} (hk : k < n) (hn : n ≤ 224) : (BitVec.ofNat 32 k).toNat = k := by
  rw [BitVec.toNat_ofNat]
  exact Nat.mod_eq_of_lt (by omega)

theorem index0 (t : Fin cfg1.N) : win1_0.index t 0 = 0 ∧ win1_0.index t 1 = 0 := ⟨rfl, rfl⟩
theorem index1 (t : Fin cfg1.N) : win1_1.index t 0 = (grid1.coords t 0).val ∧ win1_1.index t 1 = 0 :=
  ⟨coord_word1 (n := 16) (grid1.coords t 0).isLt (by decide), rfl⟩
theorem index2 (t : Fin cfg1.N) : win1_2.index t 0 = 0 ∧ win1_2.index t 1 = (grid1.coords t 1).val :=
  ⟨rfl, coord_word1 (n := 14) (grid1.coords t 1).isLt (by decide)⟩
theorem index3 (t : Fin cfg1.N) : win1_3.index t 0 = (grid1.coords t 0).val ∧ win1_3.index t 1 = (grid1.coords t 1).val :=
  ⟨coord_word1 (n := 16) (grid1.coords t 0).isLt (by decide), coord_word1 (n := 14) (grid1.coords t 1).isLt (by decide)⟩

/-- The blocks that the grid points write tile the result array. -/
theorem covers : (cfg1.win 3).Covers :=
  (cfg1.win 3).covers_of_indexMap_surj rfl (by decide) fun β =>
    ⟨fun a => match a with | ⟨0, _⟩ => β 0 | ⟨1, _⟩ => β 1, fun a => match a with
      | ⟨0, _⟩ => coord_word1 (n := 16) (β 0).isLt (by decide)
      | ⟨1, _⟩ => coord_word1 (n := 14) (β 1).isLt (by decide)⟩

variable (V : (c : Dev nD) → (b : Ref sig .tc) → Buf (Elt Ideal) ((c : Thread nD τ).loc b))

/-- The product's array after its launch, of the arrays as the launch finds them. -/
theorem product_array (c : Dev nD) : (dat1 V c).arrAt 3 cfg1.N = productOf (V c main_v1_2) (V c main_arg1) (V c main_arg2) := by
  refine (dat1 V c).arrAt_eq_of_covers 3 _ covers fun t hf y => ?_
  blk_simp
  rw [after1_3]
  unfold outsAt1
  rw [out_block]
  have h0 : (grid1.coords t 0).val < 16 := (grid1.coords t 0).isLt
  have h1 : (grid1.coords t 1).val < 14 := (grid1.coords t 1).isLt
  obtain ⟨r, q, rfl⟩ : ∃ (r : Fin 1024) (q : Fin 512), y = ix2 r q := ⟨y 0, y 1, (ix2_eta y).symm⟩
  have e : (win1_3.blk t).view.emb (ix2 r q)
      = ix2 (n0 := 16384) (n1 := 7168) ⟨1024 * (grid1.coords t 0).val + r.val, by omega⟩ ⟨512 * (grid1.coords t 1).val + q.val, by omega⟩ := by
    blk_ext [index3 t]
  rw [e]
  refine (out_block_apply _ _ r q).trans ?_
  unfold productOf
  refine Finset.sum_congr rfl fun k _ => ?_
  congr 1
  · blk_ext [iblk1, index1 t]
  · unfold dequant
    congr 1
    · blk_ext [iblk1, index2 t]
    · unfold scaleIdx group
      blk_ext [iblk1, index0 t]

end Cert.ComparedIdeal

end
-- ==== Proof.Reference.lean ====
/-
  WHAT THE REFERENCE COMPUTES, value by value: the scale of a group is the power of two its largest magnitude asks for; a code is the input
  times the inverse scale, clipped; and a value of the result is the sum over the 8192 columns of the dequantised input (the code times
  the scale) times the weight (its code times the scale of its group of 256 rows and 256 columns).
-/
module

public import proofs.«01_k».proof.Proof.Exponent
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal

open Idealize Idealize.ShloMosaic Cert.ReferenceIdeal.Gen Cert.Exponent

/-- Column `j` of group `g`. -/
def col (g : Fin 32) (j : Fin 256) : Fin 8192 := ⟨g.val * 256 + j.val, by omega⟩

/-- The exponent of a group of the input. -/
def groupExponent (x : Vec Ideal S4x4096x8192 .bf16) (b : Fin 4) (s : Fin 4096) (g : Fin 32) : EReal :=
  refExponent (peak fun j => x (ix3 b s (col g j)))

/-! ### The steps, each of arbitrary arrays -/

theorem groups_apply (x : Vec Ideal S4x4096x8192 .bf16) (b : Fin 4) (s : Fin 4096) (g : Fin 32) (j : Fin 256) :
    (k0_pay3 (F := Ideal) x (ix4 b s g j) : EReal) = x (ix3 b s (col g j)) := by
  pointwise [k0_pay3]
  rfl

theorem peak_apply (a : FVec Ideal S4x4096x32x256 .f32) (b : Fin 4) (s : Fin 4096) (g : Fin 32) :
    (multiReduction .maximumf [3] S4x4096x32 (absf a) 0xFF800000#32 reduces_S4x4096x32x256_S4x4096x32 (.inl rfl) rfl (ix3 b s g) : EReal)
      = peak fun j => a (ix4 b s g j) := by
  pointwise
  rfl

theorem exponents_apply (n : Fin 254) :
    sitofp (F := Ideal) .f32 (subi (iota .tc S1x1x1x254 32 [3] iota_S1x1x1x254_d3_w32) (broadcast S1x1x1x254 126#32)) (ix4 0 0 0 n) = exponent n.val := by
  pointwise
  rfl

theorem raise_apply {S : Shape} (e : FVec Ideal S .f32) (i : S.Idx) : exp2 e i = raise (e i) := by
  unfold raise
  exact id rfl

theorem least_apply (t : FVec Ideal S4x4096x32 .f32) (e p : FVec Ideal S1x1x1x254 .f32) (b : Fin 4) (s : Fin 4096) (g : Fin 32) :
    (multiReduction .minimumf [3] S4x4096x32
      (select (cmpf .olt (broadcastTo S4x4096x32x254 (shapeCast S4x4096x32x1 t shapeCasts_S4x4096x32_S4x4096x32x1) broadcasts_S4x4096x32x1_S4x4096x32x254)
          (broadcastTo S4x4096x32x254 p broadcasts_S1x1x1x254_S4x4096x32x254))
        (broadcastTo S4x4096x32x254 (shapeCast S1x1x1x254 e shapeCasts_S1x1x1x254_S1x1x1x254) broadcasts_S1x1x1x254_S4x4096x32x254)
        (broadcast S4x4096x32x254 (Scalar.ofBits (F := Ideal) .f32 0x42FE0000#32)))
      0x7F800000#32 reduces_S4x4096x32x254_S4x4096x32 (.inl rfl) rfl (ix3 b s g) : EReal)
    = Finset.univ.fold min (Ideal.ofBits .f32 2139095040#32) fun n : Fin 254 =>
        if (t (ix3 b s g) : EReal) < (p (ix4 0 0 0 n) : EReal) then (e (ix4 0 0 0 n) : EReal) else Ideal.ofBits .f32 1123942400#32 := by
  pointwise

theorem zero_apply (a l : FVec Ideal S4x4096x32 .f32) (b : Fin 4) (s : Fin 4096) (g : Fin 32) :
    (select (cmpf .oeq a (broadcast S4x4096x32 (Scalar.ofBits (F := Ideal) .f32 0x00000000#32)))
      (broadcast S4x4096x32 (Scalar.ofBits (F := Ideal) .f32 0x00000000#32)) l (ix3 b s g) : EReal)
    = if (a (ix3 b s g) : EReal) = 0 then 0 else (l (ix3 b s g) : EReal) := by
  pointwise

theorem factor_apply (a : FVec Ideal S4x4096x32 .f32) (b : Fin 4) (s : Fin 4096) (g : Fin 32) :
    (mulf a (broadcast S4x4096x32 (Scalar.ofBits (F := Ideal) .f32 0x3B124925#32)) (ix3 b s g) : EReal) = (a (ix3 b s g) : EReal) * factor := by
  pointwise
  rfl

theorem neg_apply (e : FVec Ideal S4x4096x32 .f32) (b : Fin 4) (s : Fin 4096) (g : Fin 32) :
    (subf (broadcast S4x4096x32 (Scalar.ofBits (F := Ideal) .f32 0x00000000#32)) e (ix3 b s g) : EReal) = 0 - (e (ix3 b s g) : EReal) := by
  pointwise

theorem clip_apply (a : FVec Ideal S4x4096x32x256 .f32) (v : FVec Ideal S4x4096x32 .f32) (b : Fin 4) (s : Fin 4096) (g : Fin 32) (j : Fin 256) :
    (truncf (F := Ideal) .fp8e4m3 (minimumf (broadcast S4x4096x32x256 (Scalar.ofBits (F := Ideal) .f32 0x43E00000#32))
      (maximumf (broadcast S4x4096x32x256 (Scalar.ofBits (F := Ideal) .f32 0xC3E00000#32))
        (mulf a (broadcastTo S4x4096x32x256 (shapeCast S4x4096x32x1 v shapeCasts_S4x4096x32_S4x4096x32x1) broadcasts_S4x4096x32x1_S4x4096x32x256))))
      bitsLt_fp8e4m3_f32 (ix4 b s g j) : EReal)
    = clip ((a (ix4 b s g j) : EReal) * (v (ix3 b s g) : EReal)) := by
  pointwise
  rfl

theorem value_apply (c : FVec Ideal S4x4096x32x256 .fp8e4m3) (v : FVec Ideal S4x4096x32 .f32) (r : Fin 16384) (k : Fin 8192) :
    (shapeCast S16384x8192 (mulf (extf (F := Ideal) .bf16 c bitsLt_fp8e4m3_bf16) (broadcastTo S4x4096x32x256
        (shapeCast S4x4096x32x1 (truncf .bf16 v bitsLt_bf16_f32) shapeCasts_S4x4096x32_S4x4096x32x1) broadcasts_S4x4096x32x1_S4x4096x32x256))
      shapeCasts_S4x4096x32x256_S16384x8192 (ix2 r k) : EReal)
    = (c (ix4 (n0 := 4) (n1 := 4096) (n2 := 32) (n3 := 256) ⟨r.val / 4096, by omega⟩ ⟨r.val % 4096, by omega⟩ ⟨k.val / 256, by omega⟩ ⟨k.val % 256, by omega⟩) : EReal)
      * (v (ix3 (n0 := 4) (n1 := 4096) (n2 := 32) ⟨r.val / 4096, by omega⟩ ⟨r.val % 4096, by omega⟩ ⟨k.val / 256, by omega⟩) : EReal) := by
  pointwise

/-! ### The reference's arrays -/

theorem exponent_apply (x : Vec Ideal S4x4096x8192 .bf16) (b : Fin 4) (s : Fin 4096) (g : Fin 32) :
    (k0_pay4 (F := Ideal) x (ix3 b s g) : EReal) = groupExponent x b s g := by
  unfold k0_pay4
  refine (zero_apply _ _ b s g).trans ?_
  rw [peak_apply, least_apply, factor_apply, peak_apply]
  unfold groupExponent refExponent least
  have hp : (peak fun j => (k0_pay3 (F := Ideal) x (ix4 b s g j) : EReal)) = peak fun j => x (ix3 b s (col g j)) := by
    congr 1
    funext j
    exact groups_apply x b s g j
  rw [hp]
  simp only [raise_apply]
  generalize (peak fun j => x (ix3 b s (col g j))) = a
  have h : ∀ f : Fin 254 → EReal, f = (fun n => exponent n.val) →
      (Finset.univ.fold min (Ideal.ofBits .f32 2139095040#32) fun n : Fin 254 => if a * factor < raise (f n) then f n else Ideal.ofBits .f32 1123942400#32)
      = Finset.univ.fold min (Ideal.ofBits .f32 2139095040#32) fun n : Fin 254 =>
          if a * factor < raise (exponent n.val) then exponent n.val else Ideal.ofBits .f32 1123942400#32 := by
    rintro f rfl
    exact id rfl
  exact congrArg (fun z : EReal => if a = 0 then 0 else z) (h _ (funext exponents_apply))

/-- A scale of the reference. -/
theorem scale_apply (x : Vec Ideal S4x4096x8192 .bf16) (b : Fin 4) (s : Fin 4096) (g : Fin 32) :
    (k0_pay5 (F := Ideal) x (ix3 b s g) : EReal) = raise (groupExponent x b s g) := by
  unfold k0_pay5
  refine (raise_apply _ _).trans ?_
  rw [exponent_apply]

/-- A code of the reference, by group. -/
theorem code_apply (x : Vec Ideal S4x4096x8192 .bf16) (b : Fin 4) (s : Fin 4096) (g : Fin 32) (j : Fin 256) :
    (k0_pay6 (F := Ideal) x (ix4 b s g j) : EReal) = clip ((x (ix3 b s (col g j)) : EReal) * raise (0 - groupExponent x b s g)) := by
  unfold k0_pay6
  refine (clip_apply _ _ b s g j).trans ?_
  rw [groups_apply, raise_apply, neg_apply, exponent_apply]

/-- A dequantised input of the reference, by row of all rows. -/
theorem dequantised_apply (x : Vec Ideal S4x4096x8192 .bf16) (r : Fin 16384) (k : Fin 8192) :
    (k0_pay7 (F := Ideal) x (ix2 r k) : EReal)
      = clip ((x (ix3 (n0 := 4) (n1 := 4096) (n2 := 8192) ⟨r.val / 4096, by omega⟩ ⟨r.val % 4096, by omega⟩ k) : EReal)
          * raise (0 - groupExponent x ⟨r.val / 4096, by omega⟩ ⟨r.val % 4096, by omega⟩ ⟨k.val / 256, by omega⟩))
        * raise (groupExponent x ⟨r.val / 4096, by omega⟩ ⟨r.val % 4096, by omega⟩ ⟨k.val / 256, by omega⟩) := by
  unfold k0_pay7
  refine (value_apply _ _ r k).trans ?_
  rw [code_apply, scale_apply]
  congr 5
  apply Fin.ext
  show k.val / 256 * 256 + k.val % 256 = k.val
  omega

/-- A code of the reference, where the result keeps it. -/
theorem codes_apply (x : Vec Ideal S4x4096x8192 .bf16) (b : Fin 4) (s : Fin 4096) (k : Fin 8192) :
    (k0_pay2 (F := Ideal) (k0_pay6 x) (ix3 b s k) : EReal)
      = clip ((x (ix3 b s k) : EReal) * raise (0 - groupExponent x b s ⟨k.val / 256, by omega⟩)) := by
  have h : ∀ a : FVec Ideal S4x4096x32x256 .fp8e4m3, (k0_pay2 (F := Ideal) a (ix3 b s k) : EReal)
      = a (ix4 (n0 := 4) (n1 := 4096) (n2 := 32) (n3 := 256) b s ⟨k.val / 256, by omega⟩ ⟨k.val % 256, by omega⟩) := by
    intro a
    pointwise [k0_pay2]
  rw [h, code_apply]
  congr 4
  apply Fin.ext
  show k.val / 256 * 256 + k.val % 256 = k.val
  omega

/-- Where the scale of the weight at row `k`, column `n` lies in the table. -/
def group (k : Fin 8192) (n : Fin 7168) : S32x28.Idx :=
  ix2 (n0 := 32) (n1 := 28) ⟨k.val / 256, by omega⟩ ⟨n.val / 256, by omega⟩

/-- Row `s` of member `b`, among all rows. -/
def row (b : Fin 4) (s : Fin 4096) : Fin 16384 := ⟨b.val * 4096 + s.val, by omega⟩

/-- A value of the result, of the dequantised input and the weights. -/
theorem product_apply (xb : Vec Ideal S16384x8192 .bf16) (w : Vec Ideal S8192x7168 .fp8e4m3) (ws : Vec Ideal S32x28 .f32)
    (b : Fin 4) (s : Fin 4096) (n : Fin 7168) :
    (k0_pay1 (F := Ideal) xb (k0_pay8 w) ws (ix3 b s n) : EReal)
      = ∑ k : Fin 8192, (xb (ix2 (row b s) k) : EReal) * ((w (ix2 k n) : EReal) * (ws (group k n) : EReal)) := by
  pointwise [k0_pay1, k0_pay8]
  rfl

end Cert.ReferenceIdeal

end
-- ==== Proof.Run.lean ====
/-
  THE KERNEL'S RUN: the three results end as the buffers at the last boundary of @main, whose contents are reshapes of the arrays that the two
  launches leave.
-/
module

public import proofs.«01_k».proof.Proof.Gen.ComparedIdeal.Frame
public import Idealize.ShloMosaic.Lib.Pipeline.ValueKit

@[expose] public section

set_option maxRecDepth 16384

noncomputable section

namespace Cert.ComparedIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ComparedIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The contents of the buffers at the boundaries -/

/-- The quantiser finds the input as one matrix of rows. -/
theorem entry_v0 (c : Dev nD) : V1 m ρ c main_v0 = shapeCast S16384x8192 (m ((c : Thread nD τ).loc main_arg0)) shapeCasts_S4x4096x8192_S16384x8192 := rfl

/-- The product finds the dequantised input as the quantiser left it, and the arguments as launched. -/
theorem entry_v1_2 (c : Dev nD) : V2 m ρ c main_v1_2 = (dat0 (V1 m ρ) c).arrAt 3 cfg0.N := W2_arr m ρ c 3
theorem entry_arg1 (c : Dev nD) : V2 m ρ c main_arg1 = m ((c : Thread nD τ).loc main_arg1) := W2_args m ρ c main_arg1 (by decide)
theorem entry_arg2 (c : Dev nD) : V2 m ρ c main_arg2 = m ((c : Thread nD τ).loc main_arg2) := W2_args m ρ c main_arg2 (by decide)

theorem at_v3 (c : Dev nD) : W4 m ρ c (Proc.devRef .tc main_v3)
    = shapeCast S4x4096x7168 ((dat1 (V2 m ρ) c).arrAt 3 cfg1.N) shapeCasts_S16384x7168_S4x4096x7168 := by
  rw [← W3_arr m ρ c 3]
  rfl

theorem at_v4 (c : Dev nD) : W4 m ρ c (Proc.devRef .tc main_v4)
    = shapeCast S4x4096x8192 ((dat0 (V1 m ρ) c).arrAt 1 cfg0.N) shapeCasts_S16384x8192_S4x4096x8192 := by
  rw [← W2_arr m ρ c 1, ← W3_of m ρ c main_v1_0 (by decide)]
  rfl

theorem at_v5 (c : Dev nD) : W4 m ρ c (Proc.devRef .tc main_v5)
    = shapeCast S4x4096x32 ((dat0 (V1 m ρ) c).arrAt 2 cfg0.N) shapeCasts_S16384x32_S4x4096x32 := by
  rw [← W2_arr m ρ c 2, ← W3_of m ρ c main_v1_1 (by decide)]
  rfl

-- the kit's implicit arguments are found by unifying its conclusion with this one, which takes unfolding plain definitions in a
-- metavariable's type
set_option backward.isDefEq.respectTransparency.types false in
/-- The run, with the results: the launch over @main's segments, read at the result buffers too. -/
theorem run : θ_run defs (onTc (τ := τ) (main (F := F))) ⟨m, fun _ => 0, ρ⟩ (fun r => ∀ c : Dev nD,
      r.2.mem ((c : Thread nD τ).loc main_v3) = W4 m ρ c (Proc.devRef .tc main_v3)
      ∧ r.2.mem ((c : Thread nD τ).loc main_v4) = W4 m ρ c (Proc.devRef .tc main_v4)
      ∧ r.2.mem ((c : Thread nD τ).loc main_v5) = W4 m ρ c (Proc.devRef .tc main_v5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3 (by decide)), h c _ (mem_uc main_v4 (by decide)), h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.ComparedIdeal

end
-- ==== Proof.Results.lean ====
/-
  THE KERNEL'S THREE RESULTS ARE THE REFERENCE'S. For a finite input the scale that the kernel reads off the exponent field is the power of two
  that the reference finds by comparisons, so codes, scales and dequantised inputs agree; the products are then the same sums.
-/
module

public import proofs.«01_k».proof.Proof.QuantArrays
public import proofs.«01_k».proof.Proof.ProductArray
public import proofs.«01_k».proof.Proof.Reference
public import proofs.«01_k».proof.Proof.Run
public import proofs.«01_k».proof.Proof.Gen.Pre_in_range

@[expose] public section

set_option maxRecDepth 16384

noncomputable section

namespace Cert.ComparedIdeal

open Idealize Idealize.ShloMosaic Idealize.ShloMosaic.TcCoe Idealize.SL.Sem Cert.ComparedIdeal.Gen Cert.Exponent
open Cert.ReferenceIdeal (col groupExponent row)

/-- Every value of the input lies between the largest bf16 value and its negative. -/
def InRange (x : Vec Ideal S4x4096x8192 .bf16) : Prop :=
  ∀ i, max (x i : EReal) (-(x i : EReal)) ≤ Ideal.ofBits .bf16 32639#16

/-- The precondition, read. -/
theorem inRange_of (x : Vec Ideal S4x4096x8192 .bf16) (w : Vec Ideal S8192x7168 .fp8e4m3) (ws : Vec Ideal S32x28 .f32)
    (h : letI := Cert.Pre_in_range.Gen.facts; Cert.Pre_in_range.fn (F := Ideal) x w ws = fun _ => 1#1) : InRange x := by
  intro i
  have hi := congrFun h i
  by_contra hn
  have : (Cert.Pre_in_range.fn (F := Ideal) x w ws i) = if max (x i : EReal) (-(x i : EReal)) ≤ Ideal.ofBits .bf16 32639#16 then 1#1 else 0#1 := by
    unfold Cert.Pre_in_range.fn
    pointwise
    show BitVec.ofBool (decide (max (x i : EReal) (-(x i : EReal)) ≤ Ideal.ofBits .bf16 32639#16)) = _
    split
    · next hc => rw [decide_eq_true hc]; rfl
    · next hc => rw [decide_eq_false hc]; rfl
  rw [this, if_neg hn] at hi
  exact absurd hi (by decide)

/-- The input as one matrix of rows. -/
abbrev rows (x : Vec Ideal S4x4096x8192 .bf16) : Vec Ideal S16384x8192 .bf16 := shapeCast S16384x8192 x shapeCasts_S4x4096x8192_S16384x8192

theorem rows_apply (x : Vec Ideal S4x4096x8192 .bf16) (r : Fin 16384) (k : Fin 8192) :
    rows x (ix2 r k) = x (ix3 (n0 := 4) (n1 := 4096) (n2 := 8192) ⟨r.val / 4096, by omega⟩ ⟨r.val % 4096, by omega⟩ k) := by
  pointwise

/-- Scale and inverse scale of a group of the input are the reference's. -/
theorem scales_rows (x : Vec Ideal S4x4096x8192 .bf16) (hx : InRange x) (r : Fin 16384) (g : Fin 32) :
    scale (rowT (rows x) r g) = raise (groupExponent x ⟨r.val / 4096, by omega⟩ ⟨r.val % 4096, by omega⟩ g)
    ∧ inv (rowT (rows x) r g) = raise (0 - groupExponent x ⟨r.val / 4096, by omega⟩ ⟨r.val % 4096, by omega⟩ g) := by
  have e : rowT (rows x) r g
      = peak (fun j => x (ix3 (n0 := 4) (n1 := 4096) (n2 := 8192) ⟨r.val / 4096, by omega⟩ ⟨r.val % 4096, by omega⟩ (col g j))) * factor := by
    unfold rowT
    congr 2
    funext j
    exact rows_apply x r _
  rw [e]
  unfold groupExponent
  exact scales_eq _ (peak_nonneg _) (peak_bound _ fun k => hx _)

/-- The dequantised inputs agree. -/
theorem values_rows (x : Vec Ideal S4x4096x8192 .bf16) (hx : InRange x) :
    valuesOf (rows x) = Cert.ReferenceIdeal.Gen.k0_pay7 x := by
  funext i
  obtain ⟨r, k, rfl⟩ : ∃ (r : Fin 16384) (k : Fin 8192), i = ix2 r k := ⟨i 0, i 1, (ix2_eta i).symm⟩
  obtain ⟨h1, h2⟩ := scales_rows x hx r (grp k)
  refine Eq.trans ?_ (Cert.ReferenceIdeal.dequantised_apply x r k).symm
  show clip ((rows x (ix2 r k) : EReal) * inv (rowT (rows x) r (grp k))) * scale (rowT (rows x) r (grp k)) = _
  rw [h1, h2, rows_apply]
  exact id rfl

theorem row_div (b : Fin 4) (s : Fin 4096) (h : (row b s).val / 4096 < 4) : (⟨(row b s).val / 4096, h⟩ : Fin 4) = b := by
  apply Fin.ext
  show (b.val * 4096 + s.val) / 4096 = b.val
  omega
theorem row_mod (b : Fin 4) (s : Fin 4096) (h : (row b s).val % 4096 < 4096) : (⟨(row b s).val % 4096, h⟩ : Fin 4096) = s := by
  apply Fin.ext
  show (b.val * 4096 + s.val) % 4096 = s.val
  omega

/-- Result 2, the codes. -/
theorem codes_eq (x : Vec Ideal S4x4096x8192 .bf16) (hx : InRange x) :
    shapeCast S4x4096x8192 (codesOf (rows x)) shapeCasts_S16384x8192_S4x4096x8192
      = Cert.ReferenceIdeal.Gen.k0_pay2 (Cert.ReferenceIdeal.Gen.k0_pay6 x) := by
  funext i
  obtain ⟨b, s, k, rfl⟩ : ∃ (b : Fin 4) (s : Fin 4096) (k : Fin 8192), i = ix3 b s k := ⟨i 0, i 1, i 2, (ix3_eta i).symm⟩
  refine Eq.trans ?_ (Cert.ReferenceIdeal.codes_apply x b s k).symm
  have e : ∀ a : Vec Ideal S16384x8192 .fp8e4m3,
      shapeCast S4x4096x8192 a shapeCasts_S16384x8192_S4x4096x8192 (ix3 b s k) = a (ix2 (row b s) k) := by
    intro a
    pointwise
    rfl
  rw [e]
  obtain ⟨-, h2⟩ := scales_rows x hx (row b s) (grp k)
  show clip ((rows x (ix2 (row b s) k) : EReal) * inv (rowT (rows x) (row b s) (grp k))) = _
  rw [h2, rows_apply, row_div, row_mod]
  exact id rfl

/-- Result 3, the scales. -/
theorem scales_result (x : Vec Ideal S4x4096x8192 .bf16) (hx : InRange x) :
    shapeCast S4x4096x32 (scalesOf (rows x)) shapeCasts_S16384x32_S4x4096x32 = Cert.ReferenceIdeal.Gen.k0_pay5 x := by
  funext i
  obtain ⟨b, s, g, rfl⟩ : ∃ (b : Fin 4) (s : Fin 4096) (g : Fin 32), i = ix3 b s g := ⟨i 0, i 1, i 2, (ix3_eta i).symm⟩
  refine Eq.trans ?_ (Cert.ReferenceIdeal.scale_apply x b s g).symm
  have e : ∀ a : Vec Ideal S16384x32 .f32,
      shapeCast S4x4096x32 a shapeCasts_S16384x32_S4x4096x32 (ix3 b s g) = a (ix2 (row b s) g) := by
    intro a
    pointwise
    rfl
  rw [e]
  obtain ⟨h1, -⟩ := scales_rows x hx (row b s) g
  show scale (rowT (rows x) (row b s) g) = _
  rw [h1, row_div, row_mod]

/-- Result 1, the product. -/
theorem product_eq (x : Vec Ideal S4x4096x8192 .bf16) (hx : InRange x) (w : Vec Ideal S8192x7168 .fp8e4m3) (ws : Vec Ideal S32x28 .f32) :
    shapeCast S4x4096x7168 (productOf (valuesOf (rows x)) w ws) shapeCasts_S16384x7168_S4x4096x7168
      = Cert.ReferenceIdeal.Gen.k0_pay1 (Cert.ReferenceIdeal.Gen.k0_pay7 x) (Cert.ReferenceIdeal.Gen.k0_pay8 w) ws := by
  rw [values_rows x hx]
  generalize Cert.ReferenceIdeal.Gen.k0_pay7 x = xb
  funext i
  obtain ⟨b, s, n, rfl⟩ : ∃ (b : Fin 4) (s : Fin 4096) (n : Fin 7168), i = ix3 b s n := ⟨i 0, i 1, i 2, (ix3_eta i).symm⟩
  refine Eq.trans ?_ (Cert.ReferenceIdeal.product_apply xb w ws b s n).symm
  have e : ∀ a : Vec Ideal S16384x7168 .bf16,
      shapeCast S4x4096x7168 a shapeCasts_S16384x7168_S4x4096x7168 (ix3 b s n) = a (ix2 (row b s) n) := by
    intro a
    pointwise
    rfl
  rw [e]
  rfl

end Cert.ComparedIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Compared
public import proofs.«01_k».proof.Proof.Gen.Compared.Skeleton
public import proofs.«01_k».proof.Proof.Gen.Compared.Launch
public import proofs.«01_k».proof.Proof.Gen.Compared.Points
public import proofs.«01_k».proof.Proof.Gen.Compared.Frame
public import proofs.«01_k».proof.Proof.Gen.ComparedIdeal
public import proofs.«01_k».proof.Proof.Gen.ComparedIdeal.Skeleton
public import proofs.«01_k».proof.Proof.Gen.ComparedIdeal.Launch
public import proofs.«01_k».proof.Proof.Gen.ComparedIdeal.Points
public import proofs.«01_k».proof.Proof.Gen.ComparedIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_range
public import proofs.«01_k».proof.Proof.Results
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
open Cert.ComparedIdeal Cert.ComparedIdeal.Gen

/-- The kernel's run, with its results those of the reference. -/
theorem run_kernel (m : (ℓ : Loc nD τ sig) → Buf (Elt Ideal) ℓ) (g : Dev nD → PrngReg)
    (hx : ∀ c : Dev nD, InRange (m ((c : Thread nD τ).loc main_arg0))) :
    θ_run (defs (F := Ideal)) (onTc (τ := τ) (main (F := Ideal))) ⟨m, fun _ => 0, g⟩ (fun r => ∀ c : Dev nD,
      r.2.mem ((c : Thread nD τ).loc main_v3) = Cert.ReferenceIdeal.Value.G3 (m ((c : Thread nD τ).loc main_arg0)) (m ((c : Thread nD τ).loc main_arg1)) (m ((c : Thread nD τ).loc main_arg2))
      ∧ r.2.mem ((c : Thread nD τ).loc main_v4) = Cert.ReferenceIdeal.Value.G4 (m ((c : Thread nD τ).loc main_arg0)) (m ((c : Thread nD τ).loc main_arg1)) (m ((c : Thread nD τ).loc main_arg2))
      ∧ r.2.mem ((c : Thread nD τ).loc main_v5) = Cert.ReferenceIdeal.Value.G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run _ _ _).mono (fun r h c => ?_) (Cert.ComparedIdeal.run m g)
  obtain ⟨h3, h4, h5, ha⟩ := h c
  refine ⟨h3.trans ?_, h4.trans ?_, h5.trans ?_, ha⟩
  · rw [at_v3, product_array, entry_v1_2, entry_arg1, entry_arg2, values_array]
    exact product_eq _ (hx c) _ _
  · rw [at_v4, codes_array]
    exact codes_eq _ (hx c)
  · rw [at_v5, scales_array]
    exact scales_result _ (hx c)

end

/-- Kernel and reference at the ideal instance: both end with the same three results. -/
theorem algebraic : letI := Cert.ComparedIdeal.Gen.facts; letI := Cert.ReferenceIdeal.Gen.facts; letI := Cert.Pre_in_range.Gen.facts
    Cert.algebraic_ComparedIdeal_ReferenceIdeal_pre_in_range := by
  intro m g m' g' hpre hargs
  have hx : ∀ c : Dev Cert.ComparedIdeal.nD, Cert.ComparedIdeal.InRange (m ((c : Thread Cert.ComparedIdeal.nD Cert.ComparedIdeal.τ).loc Cert.ComparedIdeal.main_arg0)) :=
    fun c => Cert.ComparedIdeal.inRange_of _ _ _ (hpre c)
  refine ⟨_, _, _, run_kernel m g hx, ?_⟩
  refine (θ_run _ _ _).mono (fun r h c => ?_) (Cert.ReferenceIdeal.Value.run m' g')
  obtain ⟨h3, h4, h5, ha⟩ := h c
  obtain ⟨e0, e1, e2⟩ := hargs c
  exact ⟨by rw [h3, e0, e1, e2], by rw [h4, e0, e1, e2], by rw [h5, e0, e1, e2], ha⟩

theorem claim : Cert.Claim := ⟨Cert.Kernel.Gen.facts, Cert.Compared.Gen.facts, Cert.ComparedIdeal.Gen.facts, Cert.ReferenceIdeal.Gen.facts, Cert.Pre_in_range.Gen.facts,
  fun m ρ _ => Cert.Kernel.Gen.frame m ρ, fun m ρ _ => Cert.Compared.Gen.frame m ρ,
  fun m ρ _ => Cert.ComparedIdeal.Gen.frame m ρ, fun m ρ _ => Cert.ComparedIdeal.Gen.frame m ρ,
  fun m ρ _ => Cert.ReferenceIdeal.Gen.frame m ρ, fun m ρ _ => Cert.ReferenceIdeal.Gen.frame m ρ,
  trivial, algebraic⟩

end Cert.Proof

end
